-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_usable [hPre_usable : Cert.Pre_usable.Facts] (m : (ℓ : Loc Cert.KernelIdeal.nD Cert.KernelIdeal.τ Cert.KernelIdeal.sig) → Buf (Elt Ideal) ℓ) : Prop :=
  ∀ c : Dev Cert.KernelIdeal.nD,
    (Cert.Pre_usable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_usable [hPre_usable : Cert.Pre_usable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_usable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_usable [hKernelIdeal : Cert.KernelIdeal.Facts] [hPre_usable : Cert.Pre_usable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_usable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_usable [hReferenceIdeal : Cert.ReferenceIdeal.Facts] [hPre_usable : Cert.Pre_usable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_usable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal_pre_usable [hKernelIdeal : Cert.KernelIdeal.Facts] [hReferenceIdeal : Cert.ReferenceIdeal.Facts] [hPre_usable : Cert.Pre_usable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_usable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_usable : Cert.Pre_usable.Facts),
    quiescent_Kernel (hKernel := hKernel)
    ∧ quiescent_KernelIdeal (hKernelIdeal := hKernelIdeal)
    ∧ quiescent_KernelIdeal_pre_usable (hKernelIdeal := hKernelIdeal) (hPre_usable := hPre_usable)
    ∧ quiescent_ReferenceIdeal (hReferenceIdeal := hReferenceIdeal)
    ∧ quiescent_ReferenceIdeal_pre_usable (hReferenceIdeal := hReferenceIdeal) (hPre_usable := hPre_usable)
    ∧ preserves_Kernel_KernelIdeal
    ∧ algebraic_KernelIdeal_ReferenceIdeal_pre_usable (hKernelIdeal := hKernelIdeal) (hReferenceIdeal := hReferenceIdeal) (hPre_usable := hPre_usable)
-- ==== Pre_usable.lean ====
abbrev S32768x4 : Shape := ⟨2, ![32768, 4]⟩
abbrev S4 : Shape := ⟨1, ![4]⟩
abbrev S4x32 : Shape := ⟨2, ![4, 32]⟩
abbrev S32 : Shape := ⟨1, ![32]⟩
abbrev S64x32 : Shape := ⟨2, ![64, 32]⟩
abbrev S32x32 : Shape := ⟨2, ![32, 32]⟩
abbrev S96x128 : Shape := ⟨2, ![96, 128]⟩
abbrev S128 : Shape := ⟨1, ![128]⟩
abbrev S128x128 : Shape := ⟨2, ![128, 128]⟩
abbrev S128x5 : Shape := ⟨2, ![128, 5]⟩
abbrev S5 : Shape := ⟨1, ![5]⟩
abbrev S17 : Shape := ⟨1, ![17]⟩
abbrev S1 : Shape := ⟨1, ![1]⟩
abbrev S_ : Shape := ⟨0, ![]⟩
abbrev S4x1 : Shape := ⟨2, ![4, 1]⟩
abbrev S16 : Shape := ⟨1, ![16]⟩
abbrev S1x16 : Shape := ⟨2, ![1, 16]⟩
abbrev S4x16 : Shape := ⟨2, ![4, 16]⟩

class Facts : Prop where
  slices_S17_S1_0 : S17.Slices ![0] S1
  shapeCasts_S1_S_ : S1.ShapeCasts S_
  slices_S17_S1_16 : S17.Slices ![16] S1
  bcast_S_S4 : S_.BroadcastsInDim S4 (![] : Fin 0 → Fin S4.rank)
  bcast_S4_S4x1_0 : S4.BroadcastsInDim S4x1 (![0] : Fin 1 → Fin S4x1.rank)
  slices_S17_S16_0 : S17.Slices ![0] S16
  slices_S17_S16_1 : S17.Slices ![1] S16
  bcast_S16_S1x16_1 : S16.BroadcastsInDim S1x16 (![1] : Fin 1 → Fin S1x16.rank)
  bcast_S4x1_S4x16_0_1 : S4x1.BroadcastsInDim S4x16 (![0, 1] : Fin 2 → Fin S4x16.rank)
  bcast_S1x16_S4x16_0_1 : S1x16.BroadcastsInDim S4x16 (![0, 1] : Fin 2 → Fin S4x16.rank)
  bcast_S_S4x16 : S_.BroadcastsInDim S4x16 (![] : Fin 0 → Fin S4x16.rank)

variable [Facts]

def fn {F : FTy → Type} [FloatOps F] (main_arg0 : FVec F S32768x4 .f32) (main_arg1 : FVec F S4 .f32) (main_arg2 : FVec F S4 .f32) (main_arg3 : FVec F S4x32 .f32) (main_arg4 : FVec F S32 .f32) (main_arg5 : FVec F S64x32 .f32) (main_arg6 : FVec F S32 .f32) (main_arg7 : FVec F S32x32 .f32) (main_arg8 : FVec F S32 .f32) (main_arg9 : FVec F S96x128 .f32) (main_arg10 : FVec F S128 .f32) (main_arg11 : FVec F S128x128 .f32) (main_arg12 : FVec F S128 .f32) (main_arg13 : FVec F S128x5 .f32) (main_arg14 : FVec F S5 .f32) (main_arg15 : IVec S17 32) : IVec S4x16 1 :=
  let main_v0 : IVec S1 32 := (extractStridedSlice S1 ![0] · slices_S17_S1_0) main_arg15
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![16] · slices_S17_S1_16) main_arg15
  let main_v4 : IVec S_ 32 := shapeCast S_ main_v3 shapeCasts_S1_S_
  let main_c_0 : IVec S_ 32 := constantI S_ 32 32768#32
  let main_v5 : IVec S_ 1 := cmpi .eq main_v4 main_c_0
  let main_v6 : IVec S_ 1 := andi main_v2 main_v5
  let main_cst : FVec F S_ .f32 := constant S_ .f32 0x00000000#32
  let main_v7 : FVec F S4 .f32 := broadcastInDim S4 ![] bcast_S_S4 main_cst
  let main_v8 : IVec S4 1 := cmpf .une main_arg2 main_v7
  let main_v9 : IVec S4x1 1 := broadcastInDim S4x1 ![0] bcast_S4_S4x1_0 main_v8
  let main_v10 : IVec S16 32 := (extractStridedSlice S16 ![0] · slices_S17_S16_0) main_arg15
  let main_v11 : IVec S16 32 := (extractStridedSlice S16 ![1] · slices_S17_S16_1) main_arg15
  let main_v12 : IVec S16 1 := cmpi .sle main_v10 main_v11
  let main_v13 : IVec S1x16 1 := broadcastInDim S1x16 ![1] bcast_S16_S1x16_1 main_v12
  let main_v14 : IVec S4x16 1 := broadcastInDim S4x16 ![0, 1] bcast_S4x1_S4x16_0_1 main_v9
  let main_v15 : IVec S4x16 1 := broadcastInDim S4x16 ![0, 1] bcast_S1x16_S4x16_0_1 main_v13
  let main_v16 : IVec S4x16 1 := andi main_v14 main_v15
  let main_v17 : IVec S4x16 1 := broadcastInDim S4x16 ![] bcast_S_S4x16 main_v6
  let main_v18 : IVec S4x16 1 := andi main_v16 main_v17
  main_v18
-- ==== Kernel.lean ====
abbrev S32768x4 : Shape := ⟨2, ![32768, 4]⟩
abbrev S4 : Shape := ⟨1, ![4]⟩
abbrev S4x32 : Shape := ⟨2, ![4, 32]⟩
abbrev S32 : Shape := ⟨1, ![32]⟩
abbrev S64x32 : Shape := ⟨2, ![64, 32]⟩
abbrev S32x32 : Shape := ⟨2, ![32, 32]⟩
abbrev S96x128 : Shape := ⟨2, ![96, 128]⟩
abbrev S128 : Shape := ⟨1, ![128]⟩
abbrev S128x128 : Shape := ⟨2, ![128, 128]⟩
abbrev S128x5 : Shape := ⟨2, ![128, 5]⟩
abbrev S5 : Shape := ⟨1, ![5]⟩
abbrev S17 : Shape := ⟨1, ![17]⟩
abbrev S_ : Shape := ⟨0, ![]⟩
abbrev S4x32768 : Shape := ⟨2, ![4, 32768]⟩
abbrev S16 : Shape := ⟨1, ![16]⟩
abbrev S4x1 : Shape := ⟨2, ![4, 1]⟩
abbrev S16x1 : Shape := ⟨2, ![16, 1]⟩
abbrev S1x16 : Shape := ⟨2, ![1, 16]⟩
abbrev S32x1 : Shape := ⟨2, ![32, 1]⟩
abbrev S1x128 : Shape := ⟨2, ![1, 128]⟩
abbrev S1x5 : Shape := ⟨2, ![1, 5]⟩
abbrev S16x5 : Shape := ⟨2, ![16, 5]⟩
abbrev S4x4096 : Shape := ⟨2, ![4, 4096]⟩
abbrev S32x16 : Shape := ⟨2, ![32, 16]⟩
abbrev S16x2048 : Shape := ⟨2, ![16, 2048]⟩
abbrev S4x2048 : Shape := ⟨2, ![4, 2048]⟩
abbrev S32x2048 : Shape := ⟨2, ![32, 2048]⟩
abbrev S1 : Shape := ⟨1, ![1]⟩
abbrev S1x2048 : Shape := ⟨2, ![1, 2048]⟩
abbrev S96x16 : Shape := ⟨2, ![96, 16]⟩
abbrev S16x128 : Shape := ⟨2, ![16, 128]⟩

abbrev nBuf : Space → Nat
  | .hbm => 36
  | .vmem => 26
  | .smem => 1
  | _ => 0

abbrev bufTy : (tb : Table) → Fin (tcTables nBuf tb) → BufTy
  | .hbm, ⟨0, _⟩ => ⟨S32768x4, .f32⟩
  | .hbm, ⟨1, _⟩ => ⟨S4, .f32⟩
  | .hbm, ⟨2, _⟩ => ⟨S4, .f32⟩
  | .hbm, ⟨3, _⟩ => ⟨S4x32, .f32⟩
  | .hbm, ⟨4, _⟩ => ⟨S32, .f32⟩
  | .hbm, ⟨5, _⟩ => ⟨S64x32, .f32⟩
  | .hbm, ⟨6, _⟩ => ⟨S32, .f32⟩
  | .hbm, ⟨7, _⟩ => ⟨S32x32, .f32⟩
  | .hbm, ⟨8, _⟩ => ⟨S32, .f32⟩
  | .hbm, ⟨9, _⟩ => ⟨S96x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x5, .f32⟩
  | .hbm, ⟨14, _⟩ => ⟨S5, .f32⟩
  | .hbm, ⟨15, _⟩ => ⟨S17, .i32⟩
  | .hbm, ⟨16, _⟩ => ⟨S4, .f32⟩
  | .hbm, ⟨17, _⟩ => ⟨S_, .f32⟩
  | .hbm, ⟨18, _⟩ => ⟨S4, .f32⟩
  | .hbm, ⟨19, _⟩ => ⟨S4, .f32⟩
  | .hbm, ⟨20, _⟩ => ⟨S4x32768, .f32⟩
  | .hbm, ⟨21, _⟩ => ⟨S16, .i32⟩
  | .hbm, ⟨22, _⟩ => ⟨S16, .i32⟩
  | .hbm, ⟨23, _⟩ => ⟨S4x1, .f32⟩
  | .hbm, ⟨24, _⟩ => ⟨S4x1, .f32⟩
  | .hbm, ⟨25, _⟩ => ⟨S16x1, .i32⟩
  | .hbm, ⟨26, _⟩ => ⟨S16x1, .i32⟩
  | .hbm, ⟨27, _⟩ => ⟨S1x16, .i32⟩
  | .hbm, ⟨28, _⟩ => ⟨S1x16, .i32⟩
  | .hbm, ⟨29, _⟩ => ⟨S32x1, .f32⟩
  | .hbm, ⟨30, _⟩ => ⟨S32x1, .f32⟩
  | .hbm, ⟨31, _⟩ => ⟨S32x1, .f32⟩
  | .hbm, ⟨32, _⟩ => ⟨S1x128, .f32⟩
  | .hbm, ⟨33, _⟩ => ⟨S1x128, .f32⟩
  | .hbm, ⟨34, _⟩ => ⟨S1x5, .f32⟩
  | .hbm, ⟨35, _⟩ => ⟨S16x5, .f32⟩
  | .local _ .vmem, ⟨0, _⟩ => ⟨S4x4096, .f32⟩
  | .local _ .vmem, ⟨1, _⟩ => ⟨S4x4096, .f32⟩
  | .local _ .vmem, ⟨2, _⟩ => ⟨S4x1, .f32⟩
  | .local _ .vmem, ⟨3, _⟩ => ⟨S4x1, .f32⟩
  | .local _ .vmem, ⟨4, _⟩ => ⟨S16x1, .i32⟩
  | .local _ .vmem, ⟨5, _⟩ => ⟨S16x1, .i32⟩
  | .local _ .vmem, ⟨6, _⟩ => ⟨S1x16, .i32⟩
  | .local _ .vmem, ⟨7, _⟩ => ⟨S1x16, .i32⟩
  | .local _ .vmem, ⟨8, _⟩ => ⟨S4x32, .f32⟩
  | .local _ .vmem, ⟨9, _⟩ => ⟨S32x1, .f32⟩
  | .local _ .vmem, ⟨10, _⟩ => ⟨S64x32, .f32⟩
  | .local _ .vmem, ⟨11, _⟩ => ⟨S32x1, .f32⟩
  | .local _ .vmem, ⟨12, _⟩ => ⟨S32x32, .f32⟩
  | .local _ .vmem, ⟨13, _⟩ => ⟨S32x1, .f32⟩
  | .local _ .vmem, ⟨14, _⟩ => ⟨S96x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S128x5, .f32⟩
  | .local _ .vmem, ⟨19, _⟩ => ⟨S1x5, .f32⟩
  | .local _ .vmem, ⟨20, _⟩ => ⟨S16x5, .f32⟩
  | .local _ .vmem, ⟨21, _⟩ => ⟨S32x16, .f32⟩
  | .local _ .vmem, ⟨22, _⟩ => ⟨S32x16, .f32⟩
  | .local _ .vmem, ⟨23, _⟩ => ⟨S32x16, .f32⟩
  | .local _ .vmem, ⟨24, _⟩ => ⟨S32x16, .f32⟩
  | .local _ .vmem, ⟨25, _⟩ => ⟨S32x16, .f32⟩
  | .local _ .smem, ⟨0, _⟩ => ⟨S17, .i32⟩
  | _, _ => ⟨S32768x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21

abbrev nD : Nat := 1
abbrev τ : Topo := Topo.v7x

variable {F : FTy → Type} [FloatOps F]

abbrev grid0 : Pipeline.Grid := ⟨2, ![2, 8], ![false, false]⟩

def k0_cond37 (i : grid0.Coords) : BitVec 1 :=
  let arg0 : BitVec 32 := BitVec.ofNat 32 (i 0).val
  let c1_i32_39 : BitVec 32 := 1#32
  let v86 : BitVec 1 := Scalar.cmpi .eq arg0 c1_i32_39
  let arg1 : BitVec 32 := BitVec.ofNat 32 (i 1).val
  let c7_i32 : BitVec 32 := 7#32
  let v87 : BitVec 1 := Scalar.cmpi .eq arg1 c7_i32
  let v88 : BitVec 1 := Scalar.andi v86 v87
  let v89 : BitVec 32 := Scalar.extui v88
  let c0_i32_40 : BitVec 32 := 0#32
  let v90 : BitVec 1 := Scalar.cmpi .ne v89 c0_i32_40
  v90

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S17 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S4x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S4x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S16x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x16 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x16 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S32x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S64x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S32x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S32x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S32x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S96x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S128x5 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x5 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S16x5 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]
-- ==== ReferenceIdeal.lean ====
abbrev S32768x4 : Shape := ⟨2, ![32768, 4]⟩
abbrev S4 : Shape := ⟨1, ![4]⟩
abbrev S4x32 : Shape := ⟨2, ![4, 32]⟩
abbrev S32 : Shape := ⟨1, ![32]⟩
abbrev S64x32 : Shape := ⟨2, ![64, 32]⟩
abbrev S32x32 : Shape := ⟨2, ![32, 32]⟩
abbrev S96x128 : Shape := ⟨2, ![96, 128]⟩
abbrev S128 : Shape := ⟨1, ![128]⟩
abbrev S128x128 : Shape := ⟨2, ![128, 128]⟩
abbrev S128x5 : Shape := ⟨2, ![128, 5]⟩
abbrev S5 : Shape := ⟨1, ![5]⟩
abbrev S17 : Shape := ⟨1, ![17]⟩
abbrev S16 : Shape := ⟨1, ![16]⟩
abbrev S1 : Shape := ⟨1, ![1]⟩
abbrev S15 : Shape := ⟨1, ![15]⟩
abbrev S_ : Shape := ⟨0, ![]⟩
abbrev S32768 : Shape := ⟨1, ![32768]⟩
abbrev S16x1 : Shape := ⟨2, ![16, 1]⟩
abbrev S32768x1 : Shape := ⟨2, ![32768, 1]⟩
abbrev S1x1 : Shape := ⟨2, ![1, 1]⟩
abbrev S1x4 : Shape := ⟨2, ![1, 4]⟩
abbrev S32768x32 : Shape := ⟨2, ![32768, 32]⟩
abbrev S1x32 : Shape := ⟨2, ![1, 32]⟩
abbrev S16x32 : Shape := ⟨2, ![16, 32]⟩
abbrev S32768x64 : Shape := ⟨2, ![32768, 64]⟩
abbrev S1x32768 : Shape := ⟨2, ![1, 32768]⟩
abbrev S16x32768 : Shape := ⟨2, ![16, 32768]⟩
abbrev S16x32768x1 : Shape := ⟨3, ![16, 32768, 1]⟩
abbrev S1x32768x32 : Shape := ⟨3, ![1, 32768, 32]⟩
abbrev S16x32768x32 : Shape := ⟨3, ![16, 32768, 32]⟩
abbrev S16x96 : Shape := ⟨2, ![16, 96]⟩
abbrev S16x128 : Shape := ⟨2, ![16, 128]⟩
abbrev S1x128 : Shape := ⟨2, ![1, 128]⟩
abbrev S16x5 : Shape := ⟨2, ![16, 5]⟩
abbrev S1x5 : Shape := ⟨2, ![1, 5]⟩

abbrev nBuf : Space → Nat
  | .hbm => 185
  | .vmem => 0
  | .smem => 0
  | _ => 0

abbrev hbmTy0_0 (i : Nat) : BufTy := match i % 128 with
  | 0 => ⟨S32768x4, .f32⟩
  | 1 => ⟨S4, .f32⟩
  | 2 => ⟨S4, .f32⟩
  | 3 => ⟨S4x32, .f32⟩
  | 4 => ⟨S32, .f32⟩
  | 5 => ⟨S64x32, .f32⟩
  | 6 => ⟨S32, .f32⟩
  | 7 => ⟨S32x32, .f32⟩
  | 8 => ⟨S32, .f32⟩
  | 9 => ⟨S96x128, .f32⟩
  | 10 => ⟨S128, .f32⟩
  | 11 => ⟨S128x128, .f32⟩
  | 12 => ⟨S128, .f32⟩
  | 13 => ⟨S128x5, .f32⟩
  | 14 => ⟨S5, .f32⟩
  | 15 => ⟨S17, .i32⟩
  | 16 => ⟨S16, .i32⟩
  | 17 => ⟨S16, .i32⟩
  | 18 => ⟨S16, .i32⟩
  | 19 => ⟨S16, .i32⟩
  | 20 => ⟨S1, .i32⟩
  | 21 => ⟨S15, .i32⟩
  | 22 => ⟨S16, .i32⟩
  | 23 => ⟨S_, .i32⟩
  | 24 => ⟨S1, .i32⟩
  | 25 => ⟨S_, .i32⟩
  | 26 => ⟨S16, .i32⟩
  | 27 => ⟨S_, .i32⟩
  | 28 => ⟨S_, .i32⟩
  | 29 => ⟨S16, .i32⟩
  | 30 => ⟨S_, .i32⟩
  | 31 => ⟨S32768, .i32⟩
  | 32 => ⟨S_, .i32⟩
  | 33 => ⟨S16, .i32⟩
  | 34 => ⟨S16, .i1⟩
  | 35 => ⟨S_, .i32⟩
  | 36 => ⟨S16, .i32⟩
  | 37 => ⟨S16, .i32⟩
  | 38 => ⟨S16, .i32⟩
  | 39 => ⟨S16x1, .i32⟩
  | 40 => ⟨S_, .i32⟩
  | 41 => ⟨S16, .i32⟩
  | 42 => ⟨S32768, .i32⟩
  | 43 => ⟨S_, .i32⟩
  | 44 => ⟨S_, .i32⟩
  | 45 => ⟨S32768, .i32⟩
  | 46 => ⟨S_, .i32⟩
  | 47 => ⟨S32768, .i32⟩
  | 48 => ⟨S32768, .i32⟩
  | 49 => ⟨S_, .i32⟩
  | 50 => ⟨S32768, .i32⟩
  | 51 => ⟨S32768, .i1⟩
  | 52 => ⟨S_, .i32⟩
  | 53 => ⟨S32768, .i32⟩
  | 54 => ⟨S32768, .i32⟩
  | 55 => ⟨S32768, .i32⟩
  | 56 => ⟨S32768x1, .i32⟩
  | 57 => ⟨S1, .i32⟩
  | 58 => ⟨S_, .i32⟩
  | 59 => ⟨S32768x1, .i32⟩
  | 60 => ⟨S32768x1, .i1⟩
  | 61 => ⟨S1x1, .i32⟩
  | 62 => ⟨S32768x1, .i32⟩
  | 63 => ⟨S32768x1, .i1⟩
  | 64 => ⟨S32768x1, .i1⟩
  | 65 => ⟨S_, .i1⟩
  | 66 => ⟨S32768, .i1⟩
  | 67 => ⟨S32768, .i32⟩
  | 68 => ⟨S_, .i32⟩
  | 69 => ⟨S32768, .i32⟩
  | 70 => ⟨S32768, .i32⟩
  | 71 => ⟨S1x4, .f32⟩
  | 72 => ⟨S32768x4, .f32⟩
  | 73 => ⟨S32768x4, .f32⟩
  | 74 => ⟨S4, .f32⟩
  | 75 => ⟨S1x4, .f32⟩
  | 76 => ⟨S32768x4, .f32⟩
  | 77 => ⟨S32768x4, .f32⟩
  | 78 => ⟨S32768x32, .f32⟩
  | 79 => ⟨S1x32, .f32⟩
  | 80 => ⟨S32768x32, .f32⟩
  | 81 => ⟨S32768x32, .f32⟩
  | 82 => ⟨S_, .f32⟩
  | 83 => ⟨S32768x32, .f32⟩
  | 84 => ⟨S32768x32, .f32⟩
  | 85 => ⟨S_, .i32⟩
  | 86 => ⟨S16, .i32⟩
  | 87 => ⟨S16, .i32⟩
  | 88 => ⟨S16, .f32⟩
  | 89 => ⟨S_, .f32⟩
  | 90 => ⟨S16x32, .f32⟩
  | 91 => ⟨S32768x1, .i32⟩
  | 92 => ⟨S16x32, .f32⟩
  | 93 => ⟨S16x1, .f32⟩
  | 94 => ⟨S16x32, .f32⟩
  | 95 => ⟨S16x32, .f32⟩
  | 96 => ⟨S_, .i32⟩
  | 97 => ⟨S32768, .i32⟩
  | 98 => ⟨S32768, .i1⟩
  | 99 => ⟨S_, .i32⟩
  | 100 => ⟨S32768, .i32⟩
  | 101 => ⟨S32768, .i32⟩
  | 102 => ⟨S32768, .i32⟩
  | 103 => ⟨S32768x1, .i32⟩
  | 104 => ⟨S32768x32, .f32⟩
  | 105 => ⟨S32768x64, .f32⟩
  | 106 => ⟨S32768x32, .f32⟩
  | 107 => ⟨S1x32, .f32⟩
  | 108 => ⟨S32768x32, .f32⟩
  | 109 => ⟨S32768x32, .f32⟩
  | 110 => ⟨S_, .f32⟩
  | 111 => ⟨S32768x32, .f32⟩
  | 112 => ⟨S32768x32, .f32⟩
  | 113 => ⟨S32768x32, .f32⟩
  | 114 => ⟨S1x32, .f32⟩
  | 115 => ⟨S32768x32, .f32⟩
  | 116 => ⟨S32768x32, .f32⟩
  | 117 => ⟨S_, .f32⟩
  | 118 => ⟨S32768x32, .f32⟩
  | 119 => ⟨S32768x32, .f32⟩
  | 120 => ⟨S_, .i32⟩
  | 121 => ⟨S16, .i32⟩
  | 122 => ⟨S16, .i1⟩
  | 123 => ⟨S16x1, .i1⟩
  | 124 => ⟨S_, .f32⟩
  | 125 => ⟨S16x32, .f32⟩
  | 126 => ⟨S32768x1, .i32⟩
  | 127 => ⟨S16x32, .f32⟩
  | _ => ⟨S32768x4, .f32⟩

abbrev hbmTy0_1 (i : Nat) : BufTy := match i % 128 with
  | 0 => ⟨S16x1, .f32⟩
  | 1 => ⟨S16x32, .f32⟩
  | 2 => ⟨S16x32, .f32⟩
  | 3 => ⟨S1x32768, .i32⟩
  | 4 => ⟨S16, .i32⟩
  | 5 => ⟨S16x1, .i32⟩
  | 6 => ⟨S16x32768, .i32⟩
  | 7 => ⟨S16x32768, .i32⟩
  | 8 => ⟨S16x32768, .i1⟩
  | 9 => ⟨S16x32768x1, .i1⟩
  | 10 => ⟨S1x32768x32, .f32⟩
  | 11 => ⟨S_, .f32⟩
  | 12 => ⟨S_, .f32⟩
  | 13 => ⟨S16x32768x32, .i1⟩
  | 14 => ⟨S16x32768x32, .f32⟩
  | 15 => ⟨S16x32768x32, .f32⟩
  | 16 => ⟨S16x32768x32, .f32⟩
  | 17 => ⟨S_, .f32⟩
  | 18 => ⟨S16x32, .f32⟩
  | 19 => ⟨S_, .f32⟩
  | 20 => ⟨S_, .f32⟩
  | 21 => ⟨S16x32, .i1⟩
  | 22 => ⟨S16x32, .f32⟩
  | 23 => ⟨S16x32, .f32⟩
  | 24 => ⟨S1x32768x32, .f32⟩
  | 25 => ⟨S_, .f32⟩
  | 26 => ⟨S_, .f32⟩
  | 27 => ⟨S16x32768x32, .i1⟩
  | 28 => ⟨S16x32768x32, .f32⟩
  | 29 => ⟨S16x32768x32, .f32⟩
  | 30 => ⟨S16x32768x32, .f32⟩
  | 31 => ⟨S_, .f32⟩
  | 32 => ⟨S16x32, .f32⟩
  | 33 => ⟨S_, .f32⟩
  | 34 => ⟨S_, .f32⟩
  | 35 => ⟨S16x32, .i1⟩
  | 36 => ⟨S16x32, .f32⟩
  | 37 => ⟨S16x32, .f32⟩
  | 38 => ⟨S16x96, .f32⟩
  | 39 => ⟨S16x128, .f32⟩
  | 40 => ⟨S1x128, .f32⟩
  | 41 => ⟨S16x128, .f32⟩
  | 42 => ⟨S16x128, .f32⟩
  | 43 => ⟨S_, .f32⟩
  | 44 => ⟨S16x128, .f32⟩
  | 45 => ⟨S16x128, .f32⟩
  | 46 => ⟨S16x128, .f32⟩
  | 47 => ⟨S1x128, .f32⟩
  | 48 => ⟨S16x128, .f32⟩
  | 49 => ⟨S16x128, .f32⟩
  | 50 => ⟨S_, .f32⟩
  | 51 => ⟨S16x128, .f32⟩
  | 52 => ⟨S16x128, .f32⟩
  | 53 => ⟨S16x5, .f32⟩
  | 54 => ⟨S1x5, .f32⟩
  | 55 => ⟨S16x5, .f32⟩
  | 56 => ⟨S16x5, .f32⟩
  | _ => ⟨S32768x4, .f32⟩

abbrev hbmTy (i : Nat) : BufTy := match i / 128 with
  | 0 => hbmTy0_0 i
  | 1 => hbmTy0_1 i
  | _ => ⟨S32768x4, .f32⟩

abbrev bufTy : (tb : Table) → Fin (tcTables nBuf tb) → BufTy
  | .hbm, ⟨i, _⟩ => hbmTy i
  | _, _ => ⟨S32768x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_v0 : Ref sig .tc := ⟨.hbm, 20, rfl⟩
abbrev main_call0_v1 : Ref sig .tc := ⟨.hbm, 21, rfl⟩
abbrev main_v4 : Ref sig .tc := ⟨.hbm, 22, rfl⟩
abbrev main_c : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_call1_call0_c : Ref sig .tc := ⟨.hbm, 27, rfl⟩
abbrev main_call1_call0_v0 : Ref sig .tc := ⟨.hbm, 28, rfl⟩
abbrev main_v7 : Ref sig .tc := ⟨.hbm, 29, rfl⟩
abbrev main_c_1 : Ref sig .tc := ⟨.hbm, 30, rfl⟩
abbrev main_v8 : Ref sig .tc := ⟨.hbm, 31, rfl⟩
abbrev main_c_2 : Ref sig .tc := ⟨.hbm, 32, rfl⟩
abbrev main_v9 : Ref sig .tc := ⟨.hbm, 33, rfl⟩
abbrev main_v10 : Ref sig .tc := ⟨.hbm, 34, rfl⟩
abbrev main_c_3 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_c_4 : Ref sig .tc := ⟨.hbm, 40, rfl⟩
abbrev main_v15 : Ref sig .tc := ⟨.hbm, 41, rfl⟩
abbrev main_v16 : Ref sig .tc := ⟨.hbm, 42, rfl⟩
abbrev main_call2_call0_c : Ref sig .tc := ⟨.hbm, 43, rfl⟩
abbrev main_call2_call0_v0 : Ref sig .tc := ⟨.hbm, 44, rfl⟩
abbrev main_v17 : Ref sig .tc := ⟨.hbm, 45, rfl⟩
abbrev main_c_5 : Ref sig .tc := ⟨.hbm, 46, rfl⟩
abbrev main_v18 : Ref sig .tc := ⟨.hbm, 47, rfl⟩
abbrev main_v19 : Ref sig .tc := ⟨.hbm, 48, rfl⟩
abbrev main_call3_c : Ref sig .tc := ⟨.hbm, 49, rfl⟩
abbrev main_call3_v0 : Ref sig .tc := ⟨.hbm, 50, rfl⟩
abbrev main_call3_v1 : Ref sig .tc := ⟨.hbm, 51, rfl⟩
abbrev main_call3_c_0 : Ref sig .tc := ⟨.hbm, 52, rfl⟩
abbrev main_call3_v2 : Ref sig .tc := ⟨.hbm, 53, rfl⟩
abbrev main_call3_v3 : Ref sig .tc := ⟨.hbm, 54, rfl⟩
abbrev main_call3_v4 : Ref sig .tc := ⟨.hbm, 55, rfl⟩
abbrev main_call3_v5 : Ref sig .tc := ⟨.hbm, 56, rfl⟩
abbrev main_call3_c_1 : Ref sig .tc := ⟨.hbm, 57, rfl⟩
abbrev main_call3_c_2 : Ref sig .tc := ⟨.hbm, 58, rfl⟩
abbrev main_call3_v6 : Ref sig .tc := ⟨.hbm, 59, rfl⟩
abbrev main_call3_v7 : Ref sig .tc := ⟨.hbm, 60, rfl⟩
abbrev main_call3_v8 : Ref sig .tc := ⟨.hbm, 61, rfl⟩
abbrev main_call3_v9 : Ref sig .tc := ⟨.hbm, 62, rfl⟩
abbrev main_call3_v10 : Ref sig .tc := ⟨.hbm, 63, rfl⟩
abbrev main_call3_v11 : Ref sig .tc := ⟨.hbm, 64, rfl⟩
abbrev main_call3_c_3 : Ref sig .tc := ⟨.hbm, 65, rfl⟩
abbrev main_call3_v12 : Ref sig .tc := ⟨.hbm, 66, rfl⟩
abbrev main_call3_v13 : Ref sig .tc := ⟨.hbm, 67, rfl⟩
abbrev main_call3_c_4 : Ref sig .tc := ⟨.hbm, 68, rfl⟩
abbrev main_call3_v14 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_call4_cst : Ref sig .tc := ⟨.hbm, 82, rfl⟩
abbrev main_call4_v0 : Ref sig .tc := ⟨.hbm, 83, rfl⟩
abbrev main_v32 : Ref sig .tc := ⟨.hbm, 84, rfl⟩
abbrev main_c_6 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_cst : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_c_7 : Ref sig .tc := ⟨.hbm, 96, rfl⟩
abbrev main_v42 : Ref sig .tc := ⟨.hbm, 97, rfl⟩
abbrev main_v43 : Ref sig .tc := ⟨.hbm, 98, rfl⟩
abbrev main_c_8 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_call5_cst : Ref sig .tc := ⟨.hbm, 110, rfl⟩
abbrev main_call5_v0 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_call6_cst : Ref sig .tc := ⟨.hbm, 117, rfl⟩
abbrev main_call6_v0 : Ref sig .tc := ⟨.hbm, 118, rfl⟩
abbrev main_v59 : Ref sig .tc := ⟨.hbm, 119, rfl⟩
abbrev main_c_9 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_cst_10 : Ref sig .tc := ⟨.hbm, 124, rfl⟩
abbrev main_v63 : Ref sig .tc := ⟨.hbm, 125, rfl⟩
abbrev main_v64 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_cst_11 : Ref sig .tc := ⟨.hbm, 139, rfl⟩
abbrev main_call7_v0 : Ref sig .tc := ⟨.hbm, 140, rfl⟩
abbrev main_call7_v1 : Ref sig .tc := ⟨.hbm, 141, rfl⟩
abbrev main_call7_v2 : Ref sig .tc := ⟨.hbm, 142, rfl⟩
abbrev main_call7_v3 : Ref sig .tc := ⟨.hbm, 143, rfl⟩
abbrev main_v77 : Ref sig .tc := ⟨.hbm, 144, rfl⟩
abbrev main_cst_12 : Ref sig .tc := ⟨.hbm, 145, rfl⟩
abbrev main_v78 : Ref sig .tc := ⟨.hbm, 146, rfl⟩
abbrev main_cst_13 : Ref sig .tc := ⟨.hbm, 147, rfl⟩
abbrev main_call8_v0 : Ref sig .tc := ⟨.hbm, 148, rfl⟩
abbrev main_call8_v1 : Ref sig .tc := ⟨.hbm, 149, rfl⟩
abbrev main_call8_v2 : Ref sig .tc := ⟨.hbm, 150, rfl⟩
abbrev main_v79 : Ref sig .tc := ⟨.hbm, 151, rfl⟩
abbrev main_v80 : Ref sig .tc := ⟨.hbm, 152, rfl⟩
abbrev main_cst_14 : Ref sig .tc := ⟨.hbm, 153, rfl⟩
abbrev main_call9_v0 : Ref sig .tc := ⟨.hbm, 154, rfl⟩
abbrev main_call9_v1 : Ref sig .tc := ⟨.hbm, 155, rfl⟩
abbrev main_call9_v2 : Ref sig .tc := ⟨.hbm, 156, rfl⟩
abbrev main_call9_v3 : Ref sig .tc := ⟨.hbm, 157, rfl⟩
abbrev main_v81 : Ref sig .tc := ⟨.hbm, 158, rfl⟩
abbrev main_cst_15 : Ref sig .tc := ⟨.hbm, 159, rfl⟩
abbrev main_v82 : Ref sig .tc := ⟨.hbm, 160, rfl⟩
abbrev main_cst_16 : Ref sig .tc := ⟨.hbm, 161, rfl⟩
abbrev main_call10_v0 : Ref sig .tc := ⟨.hbm, 162, rfl⟩
abbrev main_call10_v1 : Ref sig .tc := ⟨.hbm, 163, rfl⟩
abbrev main_call10_v2 : Ref sig .tc := ⟨.hbm, 164, rfl⟩
abbrev main_v83 : Ref sig .tc := ⟨.hbm, 165, rfl⟩
abbrev main_v84 : Ref sig .tc := ⟨.hbm, 166, rfl⟩
abbrev main_v85 : Ref sig .tc := ⟨.hbm, 167, rfl⟩
abbrev main_v86 : Ref sig .tc := ⟨.hbm, 168, rfl⟩
abbrev main_v87 : Ref sig .tc := ⟨.hbm, 169, rfl⟩
abbrev main_v88 : Ref sig .tc := ⟨.hbm, 170, rfl⟩
abbrev main_call11_cst : Ref sig .tc := ⟨.hbm, 171, rfl⟩
abbrev main_call11_v0 : Ref sig .tc := ⟨.hbm, 172, rfl⟩
abbrev main_v89 : Ref sig .tc := ⟨.hbm, 173, rfl⟩
abbrev main_v90 : Ref sig .tc := ⟨.hbm, 174, rfl⟩
abbrev main_v91 : Ref sig .tc := ⟨.hbm, 175, rfl⟩
abbrev main_v92 : Ref sig .tc := ⟨.hbm, 176, rfl⟩
abbrev main_v93 : Ref sig .tc := ⟨.hbm, 177, rfl⟩
abbrev main_call12_cst : Ref sig .tc := ⟨.hbm, 178, rfl⟩
abbrev main_call12_v0 : Ref sig .tc := ⟨.hbm, 179, rfl⟩
abbrev main_v94 : Ref sig .tc := ⟨.hbm, 180, rfl⟩
abbrev main_v95 : Ref sig .tc := ⟨.hbm, 181, rfl⟩
abbrev main_v96 : Ref sig .tc := ⟨.hbm, 182, rfl⟩
abbrev main_v97 : Ref sig .tc := ⟨.hbm, 183, rfl⟩
abbrev main_v98 : Ref sig .tc := ⟨.hbm, 184, rfl⟩

abbrev nD : Nat := 1
abbrev τ : Topo := Topo.v7x

variable {F : FTy → Type} [FloatOps F]
-- ==== Proof.Parts.lean ====
module
public import proofs.«01_k».proof.Proof.Gen.KernelIdeal.Frame
public import proofs.«01_k».proof.Proof.Gen.KernelIdeal.Skeleton
@[expose] public section
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-- Column `s` of a running minimum or maximum. -/
abbrev colR (s : Fin 16) : Rect S32x16 := Rect.unit (s := S32x16) ![0, s.val] S32x1.size (by
  intro a; have := s.isLt; match a with
  | 0 => exact Nat.le_refl _
  | 1 => exact this)

/-- The block of one mask row. -/
theorem slices_row (s : Fin 16) : S16x2048.Slices ![s.val, 0] S1x2048 := by
  revert s; decide

/-- Row `s` of the mask, over all features: where the column is not in segment `s`, the filler. -/
def rowSel (s : Fin 16) (mask : IVec S16x2048 1) (h : FVec F S32x2048 .f32) (fill : F .f32) : FVec F S32x2048 .f32 :=
  select (broadcastTo S32x2048 (shapeCast S1x2048 (extractStridedSlice S1x2048 ![s.val, 0] mask (slices_row s)) shapeCasts_S1x2048_S1x2048) broadcasts_S1x2048_S32x2048)
    h (broadcast S32x2048 fill)

/-- The new column of the running minimum. -/
def colMin (s : Fin 16) (mask : IVec S16x2048 1) (h : FVec F S32x2048 .f32) (v : Vec F S32x1 .f32) : FVec F S32x1 .f32 :=
  shapeCast S32x1 (minimumf v (shapeCast S32x1 (multiReduction .minimumf [1] S32 (rowSel s mask h (Scalar.ofBits .f32 0x7F800000#32)) 0x7F800000#32
    reduces_S32x2048_S32 (.inl rfl) rfl) shapeCasts_S32_S32x1)) shapeCasts_S32x1_S32x1

/-- The new column of the running maximum. -/
def colMax (s : Fin 16) (mask : IVec S16x2048 1) (h : FVec F S32x2048 .f32) (v : Vec F S32x1 .f32) : FVec F S32x1 .f32 :=
  shapeCast S32x1 (maximumf v (shapeCast S32x1 (multiReduction .maximumf [1] S32 (rowSel s mask h (Scalar.ofBits .f32 0xFF800000#32)) 0xFF800000#32
    reduces_S32x2048_S32 (.inl rfl) rfl) shapeCasts_S32_S32x1)) shapeCasts_S32x1_S32x1

/-- Word `k` of the segment boundaries. -/
def wd {c : Dev nD} (M : Memref sig .tc .smem S17 .i32) (f : Buf (Elt F) (M.view.loc (c : Thread nD τ))) (k : Fin 17) : BitVec 32 :=
  M.view.readAt (Elt F) (Rect.unit (s := S17) ![k.val] S1.size (by
    intro a; have := k.isLt; match a with
    | 0 => exact this)).toLoadRect f (Shape.Idx.first (numel1_S1.symm ▸ Nat.one_pos))

/-- Whether the block of 2048 columns from `base` meets a segment from `lo` to before `hi`. -/
def meets (lo hi base : BitVec 32) : BitVec 1 :=
  Scalar.cmpi .ne (Scalar.extui (Scalar.andi (Scalar.cmpi .sgt hi base) (Scalar.cmpi .slt lo (Scalar.addi base 2048#32))) : BitVec 32) 0#32

/-- One guarded update of a column. -/
def upd {c : Dev nD} (M : Memref sig .tc .vmem S32x16 .f32) (pay : Fin 16 → Vec F S32x1 .f32 → FVec F S32x1 .f32) (g : Fin 16 → BitVec 1)
    (f : Buf (Elt F) (M.view.loc (c : Thread nD τ))) (s : Fin 16) : Buf (Elt F) (M.view.loc (c : Thread nD τ)) :=
  if hc : g s = 1#1 then M.view.writes (Elt F) f [⟨colR s, pay s (M.view.readAt (Elt F) (colR s).toLoadRect f)⟩] else f

/-- The guards of one half of a block, from the boundaries. -/
def guardOf (w : Fin 17 → BitVec 32) (base : BitVec 32) (s : Fin 16) : BitVec 1 :=
  meets (w s.castSucc) (w s.succ) base

/-- The first point of the first phase clears the segment sums. -/
def clr {c : Dev nD} (M : Memref sig .tc .vmem S32x16 .f32) (a0 a1 : BitVec 32) (f : Buf (Elt F) (M.view.loc (c : Thread nD τ))) :
    Buf (Elt F) (M.view.loc (c : Thread nD τ)) :=
  if hc : Scalar.cmpi .ne (Scalar.extui (Scalar.andi (Scalar.cmpi .eq a0 0#32) (Scalar.cmpi .eq a1 0#32)) : BitVec 32) 0#32 = 1#1 then
    M.view.writes (Elt F) f [⟨Rect.unit (s := S32x16) ![0, 0] S32x16.size inb_S32x16_S32x16_0_0, k0_pay114 (F := F)⟩] else f

variable (c : Dev nD) (i : grid0.Coords) (arg2 : Memref sig .tc .smem S17 .i32) (harg2 : arg2.IsWhole) (arg3 : Memref sig .tc .vmem S4x4096 .f32) (harg3 : arg3.IsWhole) (arg4 : Memref sig .tc .vmem S4x1 .f32) (harg4 : arg4.IsWhole) (arg5 : Memref sig .tc .vmem S4x1 .f32) (harg5 : arg5.IsWhole) (arg6 : Memref sig .tc .vmem S16x1 .i32) (harg6 : arg6.IsWhole) (arg7 : Memref sig .tc .vmem S16x1 .i32) (harg7 : arg7.IsWhole) (arg8 : Memref sig .tc .vmem S1x16 .i32) (harg8 : arg8.IsWhole) (arg9 : Memref sig .tc .vmem S1x16 .i32) (harg9 : arg9.IsWhole) (arg10 : Memref sig .tc .vmem S4x32 .f32) (harg10 : arg10.IsWhole) (arg11 : Memref sig .tc .vmem S32x1 .f32) (harg11 : arg11.IsWhole) (arg12 : Memref sig .tc .vmem S64x32 .f32) (harg12 : arg12.IsWhole) (arg13 : Memref sig .tc .vmem S32x1 .f32) (harg13 : arg13.IsWhole) (arg14 : Memref sig .tc .vmem S32x32 .f32) (harg14 : arg14.IsWhole) (arg15 : Memref sig .tc .vmem S32x1 .f32) (harg15 : arg15.IsWhole) (arg16 : Memref sig .tc .vmem S96x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S1x128 .f32) (harg19 : arg19.IsWhole) (arg20 : Memref sig .tc .vmem S128x5 .f32) (harg20 : arg20.IsWhole) (arg21 : Memref sig .tc .vmem S1x5 .f32) (harg21 : arg21.IsWhole) (arg22 : Memref sig .tc .vmem S16x5 .f32) (harg22 : arg22.IsWhole) (arg23 : Memref sig .tc .vmem S32x16 .f32) (harg23 : arg23.IsWhole) (arg24 : Memref sig .tc .vmem S32x16 .f32) (harg24 : arg24.IsWhole) (arg25 : Memref sig .tc .vmem S32x16 .f32) (harg25 : arg25.IsWhole) (arg26 : Memref sig .tc .vmem S32x16 .f32) (harg26 : arg26.IsWhole) (arg27 : Memref sig .tc .vmem S32x16 .f32) (harg27 : arg27.IsWhole)

theorem part1_spec {β : Type} (v16 : FVec F S16x2048 .f32) (v34 : FVec F S32x2048 .f32) (v51 : FVec F S16x2048 .f32) (v69 : FVec F S32x2048 .f32)
    (f12 : Buf (Elt F) (arg12.view.loc (c : Thread nD τ))) (f14 : Buf (Elt F) (arg14.view.loc (c : Thread nD τ))) (f15 : Buf (Elt F) (arg15.view.loc (c : Thread nD τ))) (f24 : Buf (Elt F) (arg24.view.loc (c : Thread nD τ))) (f25 : Buf (Elt F) (arg25.view.loc (c : Thread nD τ)))
    (K : (Σ' (v105 : FVec F S32x2048 .f32) (v120 : FVec F S32x2048 .f32) (v121 : Vec F S32x16 .f32), FVec F S32x16 .f32) → Prog (TpuEff nD τ sig (Elt F) Λ₀ .tc) β) (Q : β → sProp 𝕄) :
    iprop((arg12.view.loc (c : Thread nD τ) ↦{fullShare} f12) ∗ (arg14.view.loc (c : Thread nD τ) ↦{fullShare} f14) ∗ (arg15.view.loc (c : Thread nD τ) ↦{fullShare} f15) ∗ (arg24.view.loc (c : Thread nD τ) ↦{fullShare} f24) ∗ (arg25.view.loc (c : Thread nD τ) ↦{fullShare} f25) ∗
     ((arg12.view.loc (c : Thread nD τ) ↦{fullShare} f12) -∗
      (arg14.view.loc (c : Thread nD τ) ↦{fullShare} f14) -∗
      (arg15.view.loc (c : Thread nD τ) ↦{fullShare} f15) -∗
      (arg24.view.loc (c : Thread nD τ) ↦{fullShare} f24) -∗
      (arg25.view.loc (c : Thread nD τ) ↦{fullShare} f25) -∗
      wp (M := 𝕄) frame (wpE (defs₀ (F := F)) Variants.none c none) Set.univ
      (K ⟨k0_pay13 v16 v34 (arg12.view.readAt (Elt F) (Rect.unit (s := S64x32) ![0, 0] S32x32.size inb_S64x32_S32x32_0_0).toLoadRect f12) (arg24.view.readAt (Elt F) (Rect.unit (s := S32x16) ![0, 0] S32x16.size inb_S32x16_S32x16_0_0).toLoadRect f24) (arg14.view.readAt (Elt F) (Rect.unit (s := S32x32) ![0, 0] S32x32.size inb_S32x32_S32x32_0_0).toLoadRect f14) (arg15.view.readAt (Elt F) (Rect.unit (s := S32x1) ![0, 0] S32x1.size inb_S32x1_S32x1_0_0).toLoadRect f15), k0_pay14 v51 v69 (arg12.view.readAt (Elt F) (Rect.unit (s := S64x32) ![0, 0] S32x32.size inb_S64x32_S32x32_0_0).toLoadRect f12) (arg24.view.readAt (Elt F) (Rect.unit (s := S32x16) ![0, 0] S32x16.size inb_S32x16_S32x16_0_0).toLoadRect f24) (arg14.view.readAt (Elt F) (Rect.unit (s := S32x32) ![0, 0] S32x32.size inb_S32x32_S32x32_0_0).toLoadRect f14) (arg15.view.readAt (Elt F) (Rect.unit (s := S32x1) ![0, 0] S32x1.size inb_S32x1_S32x1_0_0).toLoadRect f15), (arg25.view.readAt (Elt F) (Rect.unit (s := S32x16) ![0, 0] S32x16.size inb_S32x16_S32x16_0_0).toLoadRect f25), constant S32x16 .f32 0x00000000#32⟩) Q)) ⊢
    wp (M := 𝕄) frame (wpE (defs₀ (F := F)) Variants.none c none) Set.univ
      (k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v16 v34 v51 v69 >>= K) Q := by
  iintro ⟨H12, H14, H15, H24, H25, HK⟩
  rw [k0_part1_eq_skeleton]
  unfold k0_part1_skel
  sl_exec
  iapply HK $$ [H12] [H14] [H15] [H24] [H25]
  · iexact H12
  · iexact H14
  · iexact H15
  · iexact H24
  · iexact H25

theorem part2_spec {β : Type} (a1 : BitVec 32) (v14 : IVec S16x2048 1) (v16 v51 : FVec F S16x2048 .f32) (v105 v120 : FVec F S32x2048 .f32) (v121 : Vec F S32x16 .f32) (cst : FVec F S32x16 .f32)
    (f2 : Buf (Elt F) (arg2.view.loc (c : Thread nD τ))) (f25 : Buf (Elt F) (arg25.view.loc (c : Thread nD τ))) (f26 : Buf (Elt F) (arg26.view.loc (c : Thread nD τ))) (f27 : Buf (Elt F) (arg27.view.loc (c : Thread nD τ)))
    (K : (Σ' (v130 : BitVec 32) (v155 : Elt F .i32) (v157 : BitVec 1), BitVec 32) → Prog (TpuEff nD τ sig (Elt F) Λ₀ .tc) β) (Q : β → sProp 𝕄) :
    iprop((arg2.view.loc (c : Thread nD τ) ↦{fullShare} f2) ∗ (arg25.view.loc (c : Thread nD τ) ↦{fullShare} f25) ∗ (arg26.view.loc (c : Thread nD τ) ↦{fullShare} f26) ∗ (arg27.view.loc (c : Thread nD τ) ↦{fullShare} f27) ∗
     ((arg2.view.loc (c : Thread nD τ) ↦{fullShare} f2) -∗
      (arg25.view.loc (c : Thread nD τ) ↦{fullShare} (arg25.view.writes (Elt F) f25 [⟨(Rect.unit (s := S32x16) ![0, 0] S32x16.size inb_S32x16_S32x16_0_0), k0_pay15 v16 v51 v105 v120 v121 cst⟩])) -∗
      (arg26.view.loc (c : Thread nD τ) ↦{fullShare} (([0, 1, 2] : List (Fin 16)).foldl (upd arg26 (fun s => colMin s v14 v105) (guardOf (wd arg2 f2) (Scalar.addi (Scalar.muli a1 4096#32) 0#32))) f26)) -∗
      (arg27.view.loc (c : Thread nD τ) ↦{fullShare} (([0, 1, 2] : List (Fin 16)).foldl (upd arg27 (fun s => colMax s v14 v105) (guardOf (wd arg2 f2) (Scalar.addi (Scalar.muli a1 4096#32) 0#32))) f27)) -∗
      wp (M := 𝕄) frame (wpE (defs₀ (F := F)) Variants.none c none) Set.univ
      (K ⟨(Scalar.addi (Scalar.muli a1 4096#32) 0#32), wd arg2 f2 3, (Scalar.cmpi .sgt (wd arg2 f2 4) (Scalar.addi (Scalar.muli a1 4096#32) 0#32)), 2048#32⟩) Q)) ⊢
    wp (M := 𝕄) frame (wpE (defs₀ (F := F)) Variants.none c none) Set.univ
      (k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 a1 v14 v16 v51 v105 v120 v121 cst >>= K) Q := by
  iintro ⟨H2, H25, H26, H27, HK⟩
  rw [k0_part2_eq_skeleton]
  unfold k0_part2_skel
  sl_exec
  iapply HK $$ [H2] [H25] [H26] [H27]
  · iexact H2
  · iexact H25
  · iexact H26
  · iexact H27

theorem part3_spec {β : Type} (v14 : IVec S16x2048 1) (v105 : FVec F S32x2048 .f32) (v130 : BitVec 32)
    (f2 : Buf (Elt F) (arg2.view.loc (c : Thread nD τ))) (f26 : Buf (Elt F) (arg26.view.loc (c : Thread nD τ))) (f27 : Buf (Elt F) (arg27.view.loc (c : Thread nD τ)))
    (K : PUnit → Prog (TpuEff nD τ sig (Elt F) Λ₀ .tc) β) (Q : β → sProp 𝕄) :
    iprop((arg2.view.loc (c : Thread nD τ) ↦{fullShare} f2) ∗ (arg26.view.loc (c : Thread nD τ) ↦{fullShare} f26) ∗ (arg27.view.loc (c : Thread nD τ) ↦{fullShare} f27) ∗
     ((arg2.view.loc (c : Thread nD τ) ↦{fullShare} f2) -∗
      (arg26.view.loc (c : Thread nD τ) ↦{fullShare} (([3, 4, 5, 6, 7] : List (Fin 16)).foldl (upd arg26 (fun s => colMin s v14 v105) (guardOf (wd arg2 f2) v130)) f26)) -∗
      (arg27.view.loc (c : Thread nD τ) ↦{fullShare} (([3, 4, 5, 6, 7] : List (Fin 16)).foldl (upd arg27 (fun s => colMax s v14 v105) (guardOf (wd arg2 f2) v130)) f27)) -∗
      wp (M := 𝕄) frame (wpE (defs₀ (F := F)) Variants.none c none) Set.univ
      (K ⟨⟩) Q)) ⊢
    wp (M := 𝕄) frame (wpE (defs₀ (F := F)) Variants.none c none) Set.univ
      (k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v14 v105 v130 (wd arg2 f2 3) (Scalar.cmpi .sgt (wd arg2 f2 4) v130) 2048#32 >>= K) Q := by
  iintro ⟨H2, H26, H27, HK⟩
  rw [k0_part3_eq_skeleton]
  unfold k0_part3_skel
  sl_exec
  iapply HK $$ [H2] [H26] [H27]
  · iexact H2
  · iexact H26
  · iexact H27

theorem part4_spec {β : Type} (v14 : IVec S16x2048 1) (v105 : FVec F S32x2048 .f32) (v130 : BitVec 32)
    (f2 : Buf (Elt F) (arg2.view.loc (c : Thread nD τ))) (f26 : Buf (Elt F) (arg26.view.loc (c : Thread nD τ))) (f27 : Buf (Elt F) (arg27.view.loc (c : Thread nD τ)))
    (K : BitVec 1 → Prog (TpuEff nD τ sig (Elt F) Λ₀ .tc) β) (Q : β → sProp 𝕄) :
    iprop((arg2.view.loc (c : Thread nD τ) ↦{fullShare} f2) ∗ (arg26.view.loc (c : Thread nD τ) ↦{fullShare} f26) ∗ (arg27.view.loc (c : Thread nD τ) ↦{fullShare} f27) ∗
     ((arg2.view.loc (c : Thread nD τ) ↦{fullShare} f2) -∗
      (arg26.view.loc (c : Thread nD τ) ↦{fullShare} (([8, 9, 10, 11] : List (Fin 16)).foldl (upd arg26 (fun s => colMin s v14 v105) (guardOf (wd arg2 f2) v130)) f26)) -∗
      (arg27.view.loc (c : Thread nD τ) ↦{fullShare} (([8, 9, 10, 11] : List (Fin 16)).foldl (upd arg27 (fun s => colMax s v14 v105) (guardOf (wd arg2 f2) v130)) f27)) -∗
      wp (M := 𝕄) frame (wpE (defs₀ (F := F)) Variants.none c none) Set.univ
      (K (Scalar.andi (Scalar.cmpi .sgt (wd arg2 f2 13) v130) (Scalar.cmpi .slt (wd arg2 f2 12) (Scalar.addi v130 2048#32)))) Q)) ⊢
    wp (M := 𝕄) frame (wpE (defs₀ (F := F)) Variants.none c none) Set.univ
      (k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v14 v105 v130 >>= K) Q := by
  iintro ⟨H2, H26, H27, HK⟩
  rw [k0_part4_eq_skeleton]
  unfold k0_part4_skel
  sl_exec
  iapply HK $$ [H2] [H26] [H27]
  · iexact H2
  · iexact H26
  · iexact H27

theorem part5_spec {β : Type} (a1 : BitVec 32) (v14 v49 : IVec S16x2048 1) (v105 v120 : FVec F S32x2048 .f32) (v130 : BitVec 32)
    (f2 : Buf (Elt F) (arg2.view.loc (c : Thread nD τ))) (f26 : Buf (Elt F) (arg26.view.loc (c : Thread nD τ))) (f27 : Buf (Elt F) (arg27.view.loc (c : Thread nD τ)))
    (K : BitVec 32 → Prog (TpuEff nD τ sig (Elt F) Λ₀ .tc) β) (Q : β → sProp 𝕄) :
    iprop((arg2.view.loc (c : Thread nD τ) ↦{fullShare} f2) ∗ (arg26.view.loc (c : Thread nD τ) ↦{fullShare} f26) ∗ (arg27.view.loc (c : Thread nD τ) ↦{fullShare} f27) ∗
     ((arg2.view.loc (c : Thread nD τ) ↦{fullShare} f2) -∗
      (arg26.view.loc (c : Thread nD τ) ↦{fullShare} (([0] : List (Fin 16)).foldl (upd arg26 (fun s => colMin s v49 v120) (guardOf (wd arg2 f2) (Scalar.addi (Scalar.muli a1 4096#32) 2048#32))) (([12, 13, 14, 15] : List (Fin 16)).foldl (upd arg26 (fun s => colMin s v14 v105) (guardOf (wd arg2 f2) v130)) f26))) -∗
      (arg27.view.loc (c : Thread nD τ) ↦{fullShare} (([0] : List (Fin 16)).foldl (upd arg27 (fun s => colMax s v49 v120) (guardOf (wd arg2 f2) (Scalar.addi (Scalar.muli a1 4096#32) 2048#32))) (([12, 13, 14, 15] : List (Fin 16)).foldl (upd arg27 (fun s => colMax s v14 v105) (guardOf (wd arg2 f2) v130)) f27))) -∗
      wp (M := 𝕄) frame (wpE (defs₀ (F := F)) Variants.none c none) Set.univ
      (K (Scalar.addi (Scalar.muli a1 4096#32) 2048#32)) Q)) ⊢
    wp (M := 𝕄) frame (wpE (defs₀ (F := F)) Variants.none c none) Set.univ
      (k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 a1 v14 v49 v105 v120 v130 (Scalar.andi (Scalar.cmpi .sgt (wd arg2 f2 13) v130) (Scalar.cmpi .slt (wd arg2 f2 12) (Scalar.addi v130 2048#32))) >>= K) Q := by
  iintro ⟨H2, H26, H27, HK⟩
  rw [k0_part5_eq_skeleton]
  unfold k0_part5_skel
  sl_exec
  iapply HK $$ [H2] [H26] [H27]
  · iexact H2
  · iexact H26
  · iexact H27

theorem part6_spec {β : Type} (v49 : IVec S16x2048 1) (v120 : FVec F S32x2048 .f32) (v260 : BitVec 32)
    (f2 : Buf (Elt F) (arg2.view.loc (c : Thread nD τ))) (f26 : Buf (Elt F) (arg26.view.loc (c : Thread nD τ))) (f27 : Buf (Elt F) (arg27.view.loc (c : Thread nD τ)))
    (K : (Σ' (v303 : BitVec 1), BitVec 1) → Prog (TpuEff nD τ sig (Elt F) Λ₀ .tc) β) (Q : β → sProp 𝕄) :
    iprop((arg2.view.loc (c : Thread nD τ) ↦{fullShare} f2) ∗ (arg26.view.loc (c : Thread nD τ) ↦{fullShare} f26) ∗ (arg27.view.loc (c : Thread nD τ) ↦{fullShare} f27) ∗
     ((arg2.view.loc (c : Thread nD τ) ↦{fullShare} f2) -∗
      (arg26.view.loc (c : Thread nD τ) ↦{fullShare} (([1, 2, 3, 4] : List (Fin 16)).foldl (upd arg26 (fun s => colMin s v49 v120) (guardOf (wd arg2 f2) v260)) f26)) -∗
      (arg27.view.loc (c : Thread nD τ) ↦{fullShare} (([1, 2, 3, 4] : List (Fin 16)).foldl (upd arg27 (fun s => colMax s v49 v120) (guardOf (wd arg2 f2) v260)) f27)) -∗
      wp (M := 𝕄) frame (wpE (defs₀ (F := F)) Variants.none c none) Set.univ
      (K ⟨(Scalar.cmpi .sgt (wd arg2 f2 6) v260), (Scalar.cmpi .slt (wd arg2 f2 5) (Scalar.addi v260 2048#32))⟩) Q)) ⊢
    wp (M := 𝕄) frame (wpE (defs₀ (F := F)) Variants.none c none) Set.univ
      (k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v49 v120 v260 >>= K) Q := by
  iintro ⟨H2, H26, H27, HK⟩
  rw [k0_part6_eq_skeleton]
  unfold k0_part6_skel
  sl_exec
  iapply HK $$ [H2] [H26] [H27]
  · iexact H2
  · iexact H26
  · iexact H27

theorem part7_spec {β : Type} (v49 : IVec S16x2048 1) (v120 : FVec F S32x2048 .f32) (v260 : BitVec 32)
    (f2 : Buf (Elt F) (arg2.view.loc (c : Thread nD τ))) (f26 : Buf (Elt F) (arg26.view.loc (c : Thread nD τ))) (f27 : Buf (Elt F) (arg27.view.loc (c : Thread nD τ)))
    (K : (Elt F .i32) → Prog (TpuEff nD τ sig (Elt F) Λ₀ .tc) β) (Q : β → sProp 𝕄) :
    iprop((arg2.view.loc (c : Thread nD τ) ↦{fullShare} f2) ∗ (arg26.view.loc (c : Thread nD τ) ↦{fullShare} f26) ∗ (arg27.view.loc (c : Thread nD τ) ↦{fullShare} f27) ∗
     ((arg2.view.loc (c : Thread nD τ) ↦{fullShare} f2) -∗
      (arg26.view.loc (c : Thread nD τ) ↦{fullShare} (([5, 6, 7, 8, 9] : List (Fin 16)).foldl (upd arg26 (fun s => colMin s v49 v120) (guardOf (wd arg2 f2) v260)) f26)) -∗
      (arg27.view.loc (c : Thread nD τ) ↦{fullShare} (([5, 6, 7, 8, 9] : List (Fin 16)).foldl (upd arg27 (fun s => colMax s v49 v120) (guardOf (wd arg2 f2) v260)) f27)) -∗
      wp (M := 𝕄) frame (wpE (defs₀ (F := F)) Variants.none c none) Set.univ
      (K (wd arg2 f2 10)) Q)) ⊢
    wp (M := 𝕄) frame (wpE (defs₀ (F := F)) Variants.none c none) Set.univ
      (k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v49 v120 v260 (Scalar.cmpi .sgt (wd arg2 f2 6) v260) (Scalar.cmpi .slt (wd arg2 f2 5) (Scalar.addi v260 2048#32)) >>= K) Q := by
  iintro ⟨H2, H26, H27, HK⟩
  rw [k0_part7_eq_skeleton]
  unfold k0_part7_skel
  sl_exec
  iapply HK $$ [H2] [H26] [H27]
  · iexact H2
  · iexact H26
  · iexact H27

theorem part8_spec {β : Type} (v49 : IVec S16x2048 1) (v120 : FVec F S32x2048 .f32) (v260 : BitVec 32)
    (f2 : Buf (Elt F) (arg2.view.loc (c : Thread nD τ))) (f26 : Buf (Elt F) (arg26.view.loc (c : Thread nD τ))) (f27 : Buf (Elt F) (arg27.view.loc (c : Thread nD τ)))
    (K : (Σ' (v379 : BitVec 32), BitVec 32) → Prog (TpuEff nD τ sig (Elt F) Λ₀ .tc) β) (Q : β → sProp 𝕄) :
    iprop((arg2.view.loc (c : Thread nD τ) ↦{fullShare} f2) ∗ (arg26.view.loc (c : Thread nD τ) ↦{fullShare} f26) ∗ (arg27.view.loc (c : Thread nD τ) ↦{fullShare} f27) ∗
     ((arg2.view.loc (c : Thread nD τ) ↦{fullShare} f2) -∗
      (arg26.view.loc (c : Thread nD τ) ↦{fullShare} (([10, 11, 12, 13] : List (Fin 16)).foldl (upd arg26 (fun s => colMin s v49 v120) (guardOf (wd arg2 f2) v260)) f26)) -∗
      (arg27.view.loc (c : Thread nD τ) ↦{fullShare} (([10, 11, 12, 13] : List (Fin 16)).foldl (upd arg27 (fun s => colMax s v49 v120) (guardOf (wd arg2 f2) v260)) f27)) -∗
      wp (M := 𝕄) frame (wpE (defs₀ (F := F)) Variants.none c none) Set.univ
      (K ⟨Scalar.extui (Scalar.andi (Scalar.cmpi .sgt (wd arg2 f2 15) v260) (Scalar.cmpi .slt (wd arg2 f2 14) (Scalar.addi v260 2048#32))), 0#32⟩) Q)) ⊢
    wp (M := 𝕄) frame (wpE (defs₀ (F := F)) Variants.none c none) Set.univ
      (k0_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v49 v120 v260 (wd arg2 f2 10) >>= K) Q := by
  iintro ⟨H2, H26, H27, HK⟩
  rw [k0_part8_eq_skeleton]
  unfold k0_part8_skel
  sl_exec
  iapply HK $$ [H2] [H26] [H27]
  · iexact H2
  · iexact H26
  · iexact H27

theorem part9_spec {β : Type}
    (f8 : Buf (Elt F) (arg8.view.loc (c : Thread nD τ))) (f9 : Buf (Elt F) (arg9.view.loc (c : Thread nD τ))) (f16 : Buf (Elt F) (arg16.view.loc (c : Thread nD τ))) (f17 : Buf (Elt F) (arg17.view.loc (c : Thread nD τ))) (f18 : Buf (Elt F) (arg18.view.loc (c : Thread nD τ))) (f19 : Buf (Elt F) (arg19.view.loc (c : Thread nD τ))) (f25 : Buf (Elt F) (arg25.view.loc (c : Thread nD τ))) (f26 : Buf (Elt F) (arg26.view.loc (c : Thread nD τ))) (f27 : Buf (Elt F) (arg27.view.loc (c : Thread nD τ)))
    (K : (Σ' (v124 : FVec F S16x128 .f32), Vec F S1x128 .f32) → Prog (TpuEff nD τ sig (Elt F) Λ₀ .tc) β) (Q : β → sProp 𝕄) :
    iprop((arg8.view.loc (c : Thread nD τ) ↦{fullShare} f8) ∗ (arg9.view.loc (c : Thread nD τ) ↦{fullShare} f9) ∗ (arg16.view.loc (c : Thread nD τ) ↦{fullShare} f16) ∗ (arg17.view.loc (c : Thread nD τ) ↦{fullShare} f17) ∗ (arg18.view.loc (c : Thread nD τ) ↦{fullShare} f18) ∗ (arg19.view.loc (c : Thread nD τ) ↦{fullShare} f19) ∗ (arg25.view.loc (c : Thread nD τ) ↦{fullShare} f25) ∗ (arg26.view.loc (c : Thread nD τ) ↦{fullShare} f26) ∗ (arg27.view.loc (c : Thread nD τ) ↦{fullShare} f27) ∗
     ((arg8.view.loc (c : Thread nD τ) ↦{fullShare} f8) -∗
      (arg9.view.loc (c : Thread nD τ) ↦{fullShare} f9) -∗
      (arg16.view.loc (c : Thread nD τ) ↦{fullShare} f16) -∗
      (arg17.view.loc (c : Thread nD τ) ↦{fullShare} f17) -∗
      (arg18.view.loc (c : Thread nD τ) ↦{fullShare} f18) -∗
      (arg19.view.loc (c : Thread nD τ) ↦{fullShare} f19) -∗
      (arg25.view.loc (c : Thread nD τ) ↦{fullShare} f25) -∗
      (arg26.view.loc (c : Thread nD τ) ↦{fullShare} f26) -∗
      (arg27.view.loc (c : Thread nD τ) ↦{fullShare} f27) -∗
      wp (M := 𝕄) frame (wpE (defs₀ (F := F)) Variants.none c none) Set.univ
      (K ⟨k0_pay106 (arg9.view.readAt (Elt F) (Rect.unit (s := S1x16) ![0, 0] S1x16.size inb_S1x16_S1x16_0_0).toLoadRect f9) (arg8.view.readAt (Elt F) (Rect.unit (s := S1x16) ![0, 0] S1x16.size inb_S1x16_S1x16_0_0).toLoadRect f8) (arg25.view.readAt (Elt F) (Rect.unit (s := S32x16) ![0, 0] S32x16.size inb_S32x16_S32x16_0_0).toLoadRect f25) (arg26.view.readAt (Elt F) (Rect.unit (s := S32x16) ![0, 0] S32x16.size inb_S32x16_S32x16_0_0).toLoadRect f26) (arg27.view.readAt (Elt F) (Rect.unit (s := S32x16) ![0, 0] S32x16.size inb_S32x16_S32x16_0_0).toLoadRect f27) (arg16.view.readAt (Elt F) (Rect.unit (s := S96x128) ![0, 0] S96x128.size inb_S96x128_S96x128_0_0).toLoadRect f16) (arg17.view.readAt (Elt F) (Rect.unit (s := S1x128) ![0, 0] S1x128.size inb_S1x128_S1x128_0_0).toLoadRect f17) (arg18.view.readAt (Elt F) (Rect.unit (s := S128x128) ![0, 0] S128x128.size inb_S128x128_S128x128_0_0).toLoadRect f18), (arg19.view.readAt (Elt F) (Rect.unit (s := S1x128) ![0, 0] S1x128.size inb_S1x128_S1x128_0_0).toLoadRect f19)⟩) Q)) ⊢
    wp (M := 𝕄) frame (wpE (defs₀ (F := F)) Variants.none c none) Set.univ
      (k0_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27  >>= K) Q := by
  iintro ⟨H8, H9, H16, H17, H18, H19, H25, H26, H27, HK⟩
  rw [k0_part9_eq_skeleton]
  unfold k0_part9_skel
  sl_exec
  iapply HK $$ [H8] [H9] [H16] [H17] [H18] [H19] [H25] [H26] [H27]
  · iexact H8
  · iexact H9
  · iexact H16
  · iexact H17
  · iexact H18
  · iexact H19
  · iexact H25
  · iexact H26
  · iexact H27

theorem part10_spec {β : Type}
    (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f10 : Buf (Elt F) (arg10.view.loc (c : Thread nD τ))) (f11 : Buf (Elt F) (arg11.view.loc (c : Thread nD τ)))
    (K : (Σ' (arg0 : BitVec 32) (arg1 : BitVec 32) (v14 : IVec S16x2048 1) (v16 : FVec F S16x2048 .f32) (v34 : FVec F S32x2048 .f32), IVec S16x2048 32) → Prog (TpuEff nD τ sig (Elt F) Λ₀ .tc) β) (Q : β → sProp 𝕄) :
    iprop((arg3.view.loc (c : Thread nD τ) ↦{fullShare} f3) ∗ (arg4.view.loc (c : Thread nD τ) ↦{fullShare} f4) ∗ (arg5.view.loc (c : Thread nD τ) ↦{fullShare} f5) ∗ (arg6.view.loc (c : Thread nD τ) ↦{fullShare} f6) ∗ (arg7.view.loc (c : Thread nD τ) ↦{fullShare} f7) ∗ (arg10.view.loc (c : Thread nD τ) ↦{fullShare} f10) ∗ (arg11.view.loc (c : Thread nD τ) ↦{fullShare} f11) ∗
     ((arg3.view.loc (c : Thread nD τ) ↦{fullShare} f3) -∗
      (arg4.view.loc (c : Thread nD τ) ↦{fullShare} f4) -∗
      (arg5.view.loc (c : Thread nD τ) ↦{fullShare} f5) -∗
      (arg6.view.loc (c : Thread nD τ) ↦{fullShare} f6) -∗
      (arg7.view.loc (c : Thread nD τ) ↦{fullShare} f7) -∗
      (arg10.view.loc (c : Thread nD τ) ↦{fullShare} f10) -∗
      (arg11.view.loc (c : Thread nD τ) ↦{fullShare} f11) -∗
      wp (M := 𝕄) frame (wpE (defs₀ (F := F)) Variants.none c none) Set.univ
      (K ⟨BitVec.ofNat 32 (i 0).val, BitVec.ofNat 32 (i 1).val, k0_pay107 i (arg6.view.readAt (Elt F) (Rect.unit (s := S16x1) ![0, 0] S16x1.size inb_S16x1_S16x1_0_0).toLoadRect f6) (arg7.view.readAt (Elt F) (Rect.unit (s := S16x1) ![0, 0] S16x1.size inb_S16x1_S16x1_0_0).toLoadRect f7), k0_pay108 i (arg6.view.readAt (Elt F) (Rect.unit (s := S16x1) ![0, 0] S16x1.size inb_S16x1_S16x1_0_0).toLoadRect f6) (arg7.view.readAt (Elt F) (Rect.unit (s := S16x1) ![0, 0] S16x1.size inb_S16x1_S16x1_0_0).toLoadRect f7), k0_pay109 (arg3.view.readAt (Elt F) (Rect.unit (s := S4x4096) ![0, 0] S4x2048.size inb_S4x4096_S4x2048_0_0).toLoadRect f3) (arg4.view.readAt (Elt F) (Rect.unit (s := S4x1) ![0, 0] S4x1.size inb_S4x1_S4x1_0_0).toLoadRect f4) (arg5.view.readAt (Elt F) (Rect.unit (s := S4x1) ![0, 0] S4x1.size inb_S4x1_S4x1_0_0).toLoadRect f5) (arg10.view.readAt (Elt F) (Rect.unit (s := S4x32) ![0, 0] S4x32.size inb_S4x32_S4x32_0_0).toLoadRect f10) (arg11.view.readAt (Elt F) (Rect.unit (s := S32x1) ![0, 0] S32x1.size inb_S32x1_S32x1_0_0).toLoadRect f11), k0_pay110 i⟩) Q)) ⊢
    wp (M := 𝕄) frame (wpE (defs₀ (F := F)) Variants.none c none) Set.univ
      (k0_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27  >>= K) Q := by
  iintro ⟨H3, H4, H5, H6, H7, H10, H11, HK⟩
  rw [k0_part10_eq_skeleton]
  unfold k0_part10_skel
  sl_exec
  iapply HK $$ [H3] [H4] [H5] [H6] [H7] [H10] [H11]
  · iexact H3
  · iexact H4
  · iexact H5
  · iexact H6
  · iexact H7
  · iexact H10
  · iexact H11

theorem part11_spec {β : Type} (a0 a1 : BitVec 32) (v38 : IVec S16x2048 32)
    (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f10 : Buf (Elt F) (arg10.view.loc (c : Thread nD τ))) (f11 : Buf (Elt F) (arg11.view.loc (c : Thread nD τ))) (f23 : Buf (Elt F) (arg23.view.loc (c : Thread nD τ)))
    (K : (Σ' (v49 : IVec S16x2048 1) (v51 : FVec F S16x2048 .f32) (v69 : FVec F S32x2048 .f32), BitVec 32) → Prog (TpuEff nD τ sig (Elt F) Λ₀ .tc) β) (Q : β → sProp 𝕄) :
    iprop((arg3.view.loc (c : Thread nD τ) ↦{fullShare} f3) ∗ (arg4.view.loc (c : Thread nD τ) ↦{fullShare} f4) ∗ (arg5.view.loc (c : Thread nD τ) ↦{fullShare} f5) ∗ (arg6.view.loc (c : Thread nD τ) ↦{fullShare} f6) ∗ (arg7.view.loc (c : Thread nD τ) ↦{fullShare} f7) ∗ (arg10.view.loc (c : Thread nD τ) ↦{fullShare} f10) ∗ (arg11.view.loc (c : Thread nD τ) ↦{fullShare} f11) ∗ (arg23.view.loc (c : Thread nD τ) ↦{fullShare} f23) ∗
     ((arg3.view.loc (c : Thread nD τ) ↦{fullShare} f3) -∗
      (arg4.view.loc (c : Thread nD τ) ↦{fullShare} f4) -∗
      (arg5.view.loc (c : Thread nD τ) ↦{fullShare} f5) -∗
      (arg6.view.loc (c : Thread nD τ) ↦{fullShare} f6) -∗
      (arg7.view.loc (c : Thread nD τ) ↦{fullShare} f7) -∗
      (arg10.view.loc (c : Thread nD τ) ↦{fullShare} f10) -∗
      (arg11.view.loc (c : Thread nD τ) ↦{fullShare} f11) -∗
      (arg23.view.loc (c : Thread nD τ) ↦{fullShare} (clr arg23 a0 a1 f23)) -∗
      wp (M := 𝕄) frame (wpE (defs₀ (F := F)) Variants.none c none) Set.univ
      (K ⟨k0_pay111 v38 (arg6.view.readAt (Elt F) (Rect.unit (s := S16x1) ![0, 0] S16x1.size inb_S16x1_S16x1_0_0).toLoadRect f6) (arg7.view.readAt (Elt F) (Rect.unit (s := S16x1) ![0, 0] S16x1.size inb_S16x1_S16x1_0_0).toLoadRect f7), k0_pay112 v38 (arg6.view.readAt (Elt F) (Rect.unit (s := S16x1) ![0, 0] S16x1.size inb_S16x1_S16x1_0_0).toLoadRect f6) (arg7.view.readAt (Elt F) (Rect.unit (s := S16x1) ![0, 0] S16x1.size inb_S16x1_S16x1_0_0).toLoadRect f7), k0_pay113 (arg3.view.readAt (Elt F) (Rect.unit (s := S4x4096) ![0, 2048] S4x2048.size inb_S4x4096_S4x2048_0_2048).toLoadRect f3) (arg4.view.readAt (Elt F) (Rect.unit (s := S4x1) ![0, 0] S4x1.size inb_S4x1_S4x1_0_0).toLoadRect f4) (arg5.view.readAt (Elt F) (Rect.unit (s := S4x1) ![0, 0] S4x1.size inb_S4x1_S4x1_0_0).toLoadRect f5) (arg10.view.readAt (Elt F) (Rect.unit (s := S4x32) ![0, 0] S4x32.size inb_S4x32_S4x32_0_0).toLoadRect f10) (arg11.view.readAt (Elt F) (Rect.unit (s := S32x1) ![0, 0] S32x1.size inb_S32x1_S32x1_0_0).toLoadRect f11), Scalar.extui (Scalar.cmpi .eq a0 0#32)⟩) Q)) ⊢
    wp (M := 𝕄) frame (wpE (defs₀ (F := F)) Variants.none c none) Set.univ
      (k0_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 a0 a1 v38 >>= K) Q := by
  iintro ⟨H3, H4, H5, H6, H7, H10, H11, H23, HK⟩
  rw [k0_part11_eq_skeleton]
  unfold k0_part11_skel
  sl_exec
  iapply HK $$ [H3] [H4] [H5] [H6] [H7] [H10] [H11] [H23]
  · iexact H3
  · iexact H4
  · iexact H5
  · iexact H6
  · iexact H7
  · iexact H10
  · iexact H11
  · iexact H23

end Cert.KernelIdeal.Hand
-- ==== Proof.Phases.lean ====
module
public import proofs.«01_k».proof.Proof.Gen.KernelIdeal.Frame
public import proofs.«01_k».proof.Proof.Parts
@[expose] public section
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-- The first phase adds a block's sums. -/
def acc {c : Dev nD} (M : Memref sig .tc .vmem S32x16 .f32) (b : BitVec 32) (v16 : FVec F S16x2048 .f32) (v34 : FVec F S32x2048 .f32) (v51 : FVec F S16x2048 .f32)
    (v69 : FVec F S32x2048 .f32) (f : Buf (Elt F) (M.view.loc (c : Thread nD τ))) : Buf (Elt F) (M.view.loc (c : Thread nD τ)) :=
  if hc : Scalar.cmpi .ne b 0#32 = 1#1 then
    M.view.writes (Elt F) f [⟨Rect.unit (s := S32x16) ![0, 0] S32x16.size inb_S32x16_S32x16_0_0,
      k0_pay1 v16 v34 v51 v69 (M.view.readAt (Elt F) (Rect.unit (s := S32x16) ![0, 0] S32x16.size inb_S32x16_S32x16_0_0).toLoadRect f)⟩] else f

/-- The first point of the second phase sets a buffer to `w`. -/
def ini {c : Dev nD} (M : Memref sig .tc .vmem S32x16 .f32) (a0 a1 : BitVec 32) (w : Vec F S32x16 .f32) (f : Buf (Elt F) (M.view.loc (c : Thread nD τ))) :
    Buf (Elt F) (M.view.loc (c : Thread nD τ)) :=
  if hc : Scalar.cmpi .ne (Scalar.extui (Scalar.andi (Scalar.cmpi .eq a0 1#32) (Scalar.cmpi .eq a1 0#32)) : BitVec 32) 0#32 = 1#1 then
    M.view.writes (Elt F) f [⟨Rect.unit (s := S32x16) ![0, 0] S32x16.size inb_S32x16_S32x16_0_0, w⟩] else f

/-- What the second phase alone does. -/
def snd {α : Type} (a0 : BitVec 32) (x y : α) : α :=
  if hc : Scalar.cmpi .ne (Scalar.extui (Scalar.cmpi .eq a0 1#32) : BitVec 32) 0#32 = 1#1 then x else y

/-- The sixteen segments. -/
def segs : List (Fin 16) := [0, 1, 2, 3, 4, 5, 6, 7, 8, 9, 10, 11, 12, 13, 14, 15]

/-- Two runs over the segments, cut as the body's parts cut them. -/
theorem segs_two {α : Type} (u0 u1 : α → Fin 16 → α) (f : α) :
    segs.foldl u1 (segs.foldl u0 f) =
      ([14, 15] : List (Fin 16)).foldl u1 (([10, 11, 12, 13] : List (Fin 16)).foldl u1 (([5, 6, 7, 8, 9] : List (Fin 16)).foldl u1
        (([1, 2, 3, 4] : List (Fin 16)).foldl u1 (([0] : List (Fin 16)).foldl u1 (([12, 13, 14, 15] : List (Fin 16)).foldl u0
          (([8, 9, 10, 11] : List (Fin 16)).foldl u0 (([3, 4, 5, 6, 7] : List (Fin 16)).foldl u0 (([0, 1, 2] : List (Fin 16)).foldl u0 f)))))))) := rfl

/-- The last point's output. -/
def fin {c : Dev nD} (M : Memref sig .tc .vmem S16x5 .f32) (i : grid0.Coords) (w : Vec F S16x5 .f32) (f : Buf (Elt F) (M.view.loc (c : Thread nD τ))) :
    Buf (Elt F) (M.view.loc (c : Thread nD τ)) :=
  if hc : k0_cond37 i = 1#1 then M.view.writes (Elt F) f [⟨Rect.unit (s := S16x5) ![0, 0] S16x5.size inb_S16x5_S16x5_0_0, w⟩] else f

/-- The first phase's sums, then the rest. -/
def ph2 {β : Type} (arg23 : Memref sig .tc .vmem S32x16 .f32) (v16 : FVec F S16x2048 .f32) (v34 : FVec F S32x2048 .f32) (v51 : FVec F S16x2048 .f32) (v69 : FVec F S32x2048 .f32) (v76 : BitVec 32) (K : Unit → Prog (TpuEff nD τ sig (Elt F) Λ₀ .tc) β) : Prog (TpuEff nD τ sig (Elt F) Λ₀ .tc) β := do
  let v77 : BitVec 1 := Scalar.cmpi .ne v76 0#32
  if k0_h2 : v77 = 1#1 then do
    let v91 : Vec F S32x16 .f32 ← Prog.lift (.load arg23 (Rect.unit (s := S32x16) ![0, 0] S32x16.size inb_S32x16_S32x16_0_0).toLoadRect (View.loadsAt_vmem h_S32x16))
    let v96 : Vec F S32x16 .f32 ← Prog.lift (.load arg23 (Rect.unit (s := S32x16) ![0, 0] S32x16.size inb_S32x16_S32x16_0_0).toLoadRect (View.loadsAt_vmem h_S32x16))
    Prog.lift (.store arg23 (Rect.unit (s := S32x16) ![0, 0] S32x16.size inb_S32x16_S32x16_0_0) (k0_pay1 v16 v34 v51 v69 v91) Finset.univ (View.stores_vmem_bits_univ h_S32x16 rfl) (.inl rfl))
    K ⟨⟩
  else do
    K ⟨⟩

/-- The second phase's start, then the rest. -/
def ph3 {β : Type} (arg8 : Memref sig .tc .vmem S1x16 .i32) (arg9 : Memref sig .tc .vmem S1x16 .i32) (arg12 : Memref sig .tc .vmem S64x32 .f32) (arg13 : Memref sig .tc .vmem S32x1 .f32) (arg23 : Memref sig .tc .vmem S32x16 .f32) (arg24 : Memref sig .tc .vmem S32x16 .f32) (arg25 : Memref sig .tc .vmem S32x16 .f32) (arg26 : Memref sig .tc .vmem S32x16 .f32) (arg27 : Memref sig .tc .vmem S32x16 .f32) (arg0 arg1 : BitVec 32) (K : Unit → Prog (TpuEff nD τ sig (Elt F) Λ₀ .tc) β) : Prog (TpuEff nD τ sig (Elt F) Λ₀ .tc) β := do
  let v78 : BitVec 1 := Scalar.cmpi .eq arg0 1#32
  let v79 : BitVec 1 := Scalar.cmpi .eq arg1 0#32
  let v80 : BitVec 1 := Scalar.andi v78 v79
  let v81 : BitVec 32 := Scalar.extui v80
  let v82 : BitVec 1 := Scalar.cmpi .ne v81 0#32
  if k0_h3 : v82 = 1#1 then do
    let v91 : Vec F S1x16 .i32 ← Prog.lift (.load arg9 (Rect.unit (s := S1x16) ![0, 0] S1x16.size inb_S1x16_S1x16_0_0).toLoadRect (View.loadsAt_vmem h_S1x16))
    let v93 : Vec F S1x16 .i32 ← Prog.lift (.load arg8 (Rect.unit (s := S1x16) ![0, 0] S1x16.size inb_S1x16_S1x16_0_0).toLoadRect (View.loadsAt_vmem h_S1x16))
    let v99 : Vec F S32x16 .f32 ← Prog.lift (.load arg23 (Rect.unit (s := S32x16) ![0, 0] S32x16.size inb_S32x16_S32x16_0_0).toLoadRect (View.loadsAt_vmem h_S32x16))
    let v102 : Vec F S32x32 .f32 ← Prog.lift (.load arg12 (Rect.unit (s := S64x32) ![32, 0] S32x32.size inb_S64x32_S32x32_32_0).toLoadRect (View.loadsAt_vmem h_S32x32))
    let v104 : Vec F S32x1 .f32 ← Prog.lift (.load arg13 (Rect.unit (s := S32x1) ![0, 0] S32x1.size inb_S32x1_S32x1_0_0).toLoadRect (View.loadsAt_vmem h_S32x1))
    let v108 : Vec F S32x16 .f32 ← Prog.lift (.load arg24 (Rect.unit (s := S32x16) ![0, 0] S32x16.size inb_S32x16_S32x16_0_0).toLoadRect (View.loadsAt_vmem h_S32x16))
    Prog.lift (.store arg24 (Rect.unit (s := S32x16) ![0, 0] S32x16.size inb_S32x16_S32x16_0_0) (k0_pay2 v91 v93 v99 v102 v104) Finset.univ (View.stores_vmem_bits_univ h_S32x16 rfl) (.inl rfl))
    let v112 : Vec F S32x16 .f32 ← Prog.lift (.load arg25 (Rect.unit (s := S32x16) ![0, 0] S32x16.size inb_S32x16_S32x16_0_0).toLoadRect (View.loadsAt_vmem h_S32x16))
    Prog.lift (.store arg25 (Rect.unit (s := S32x16) ![0, 0] S32x16.size inb_S32x16_S32x16_0_0) (k0_pay3 (F := F)) Finset.univ (View.stores_vmem_bits_univ h_S32x16 rfl) (.inl rfl))
    let v116 : Vec F S32x16 .f32 ← Prog.lift (.load arg26 (Rect.unit (s := S32x16) ![0, 0] S32x16.size inb_S32x16_S32x16_0_0).toLoadRect (View.loadsAt_vmem h_S32x16))
    Prog.lift (.store arg26 (Rect.unit (s := S32x16) ![0, 0] S32x16.size inb_S32x16_S32x16_0_0) (k0_pay4 (F := F)) Finset.univ (View.stores_vmem_bits_univ h_S32x16 rfl) (.inl rfl))
    let v120 : Vec F S32x16 .f32 ← Prog.lift (.load arg27 (Rect.unit (s := S32x16) ![0, 0] S32x16.size inb_S32x16_S32x16_0_0).toLoadRect (View.loadsAt_vmem h_S32x16))
    Prog.lift (.store arg27 (Rect.unit (s := S32x16) ![0, 0] S32x16.size inb_S32x16_S32x16_0_0) (k0_pay5 (F := F)) Finset.univ (View.stores_vmem_bits_univ h_S32x16 rfl) (.inl rfl))
    K ⟨⟩
  else do
    K ⟨⟩

/-- The second half's last two segments, then the rest. -/
def tl {β : Type} (arg2 : Memref sig .tc .smem S17 .i32) (arg26 : Memref sig .tc .vmem S32x16 .f32) (arg27 : Memref sig .tc .vmem S32x16 .f32) (v49 : IVec S16x2048 1) (v120 : FVec F S32x2048 .f32) (v260 : BitVec 32) (v379 c0_i32_184 : BitVec 32) (K : Unit → Prog (TpuEff nD τ sig (Elt F) Λ₀ .tc) β) : Prog (TpuEff nD τ sig (Elt F) Λ₀ .tc) β := do
  let v380 : BitVec 1 := Scalar.cmpi .ne v379 c0_i32_184
  if v380 = 1#1 then do
    let v402 : Vec F S32x1 .f32 ← Prog.lift (.load arg26 (Rect.unit (s := S32x16) ![0, 14] S32x1.size inb_S32x16_S32x1_0_14).toLoadRect (View.loadsAt_vmem h_S32x1))
    let v404 : Vec F S32x1 .f32 ← Prog.lift (.load arg26 (Rect.unit (s := S32x16) ![0, 14] S32x1.size inb_S32x16_S32x1_0_14).toLoadRect (View.loadsAt_vmem h_S32x1))
    Prog.lift (.store arg26 (Rect.unit (s := S32x16) ![0, 14] S32x1.size inb_S32x16_S32x1_0_14) (k0_pay7 v49 v120 v402) Finset.univ (View.stores_vmem_bits_univ h_S32x1 rfl) (.inl rfl))
    let v407 : Vec F S32x1 .f32 ← Prog.lift (.load arg27 (Rect.unit (s := S32x16) ![0, 14] S32x1.size inb_S32x16_S32x1_0_14).toLoadRect (View.loadsAt_vmem h_S32x1))
    let v409 : Vec F S32x1 .f32 ← Prog.lift (.load arg27 (Rect.unit (s := S32x16) ![0, 14] S32x1.size inb_S32x16_S32x1_0_14).toLoadRect (View.loadsAt_vmem h_S32x1))
    Prog.lift (.store arg27 (Rect.unit (s := S32x16) ![0, 14] S32x1.size inb_S32x16_S32x1_0_14) (k0_pay8 v49 v120 v407) Finset.univ (View.stores_vmem_bits_univ h_S32x1 rfl) (.inl rfl))
  let v381 : Elt F .i32 ← smemLoad arg2 (Rect.unit (s := S17) ![15] S1.size inb_S17_S1_15) numel1_S1 rfl
  let v382 : Elt F .i32 ← smemLoad arg2 (Rect.unit (s := S17) ![16] S1.size inb_S17_S1_16) numel1_S1 rfl
  let v383 : BitVec 1 := Scalar.cmpi .sgt v382 v260
  let v384 : BitVec 32 := Scalar.addi v260 2048#32
  let v385 : BitVec 1 := Scalar.cmpi .slt v381 v384
  let v386 : BitVec 1 := Scalar.andi v383 v385
  let v387 : BitVec 32 := Scalar.extui v386
  let v388 : BitVec 1 := Scalar.cmpi .ne v387 0#32
  if v388 = 1#1 then do
    let v402 : Vec F S32x1 .f32 ← Prog.lift (.load arg26 (Rect.unit (s := S32x16) ![0, 15] S32x1.size inb_S32x16_S32x1_0_15).toLoadRect (View.loadsAt_vmem h_S32x1))
    let v404 : Vec F S32x1 .f32 ← Prog.lift (.load arg26 (Rect.unit (s := S32x16) ![0, 15] S32x1.size inb_S32x16_S32x1_0_15).toLoadRect (View.loadsAt_vmem h_S32x1))
    Prog.lift (.store arg26 (Rect.unit (s := S32x16) ![0, 15] S32x1.size inb_S32x16_S32x1_0_15) (k0_pay10 v49 v120 v402) Finset.univ (View.stores_vmem_bits_univ h_S32x1 rfl) (.inl rfl))
    let v407 : Vec F S32x1 .f32 ← Prog.lift (.load arg27 (Rect.unit (s := S32x16) ![0, 15] S32x1.size inb_S32x16_S32x1_0_15).toLoadRect (View.loadsAt_vmem h_S32x1))
    let v409 : Vec F S32x1 .f32 ← Prog.lift (.load arg27 (Rect.unit (s := S32x16) ![0, 15] S32x1.size inb_S32x16_S32x1_0_15).toLoadRect (View.loadsAt_vmem h_S32x1))
    Prog.lift (.store arg27 (Rect.unit (s := S32x16) ![0, 15] S32x1.size inb_S32x16_S32x1_0_15) (k0_pay11 v49 v120 v407) Finset.univ (View.stores_vmem_bits_univ h_S32x1 rfl) (.inl rfl))
    K ⟨⟩
  else do
    K ⟨⟩

/-- The second phase's block, then the rest. -/
def ph4 {β : Type} (i : grid0.Coords) (arg2 : Memref sig .tc .smem S17 .i32) (harg2 : arg2.IsWhole) (arg3 : Memref sig .tc .vmem S4x4096 .f32) (harg3 : arg3.IsWhole) (arg4 : Memref sig .tc .vmem S4x1 .f32) (harg4 : arg4.IsWhole) (arg5 : Memref sig .tc .vmem S4x1 .f32) (harg5 : arg5.IsWhole) (arg6 : Memref sig .tc .vmem S16x1 .i32) (harg6 : arg6.IsWhole) (arg7 : Memref sig .tc .vmem S16x1 .i32) (harg7 : arg7.IsWhole) (arg8 : Memref sig .tc .vmem S1x16 .i32) (harg8 : arg8.IsWhole) (arg9 : Memref sig .tc .vmem S1x16 .i32) (harg9 : arg9.IsWhole) (arg10 : Memref sig .tc .vmem S4x32 .f32) (harg10 : arg10.IsWhole) (arg11 : Memref sig .tc .vmem S32x1 .f32) (harg11 : arg11.IsWhole) (arg12 : Memref sig .tc .vmem S64x32 .f32) (harg12 : arg12.IsWhole) (arg13 : Memref sig .tc .vmem S32x1 .f32) (harg13 : arg13.IsWhole) (arg14 : Memref sig .tc .vmem S32x32 .f32) (harg14 : arg14.IsWhole) (arg15 : Memref sig .tc .vmem S32x1 .f32) (harg15 : arg15.IsWhole) (arg16 : Memref sig .tc .vmem S96x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S1x128 .f32) (harg19 : arg19.IsWhole) (arg20 : Memref sig .tc .vmem S128x5 .f32) (harg20 : arg20.IsWhole) (arg21 : Memref sig .tc .vmem S1x5 .f32) (harg21 : arg21.IsWhole) (arg22 : Memref sig .tc .vmem S16x5 .f32) (harg22 : arg22.IsWhole) (arg23 : Memref sig .tc .vmem S32x16 .f32) (harg23 : arg23.IsWhole) (arg24 : Memref sig .tc .vmem S32x16 .f32) (harg24 : arg24.IsWhole) (arg25 : Memref sig .tc .vmem S32x16 .f32) (harg25 : arg25.IsWhole) (arg26 : Memref sig .tc .vmem S32x16 .f32) (harg26 : arg26.IsWhole) (arg27 : Memref sig .tc .vmem S32x16 .f32) (harg27 : arg27.IsWhole) (arg0 arg1 : BitVec 32) (v14 v49 : IVec S16x2048 1) (v16 : FVec F S16x2048 .f32) (v34 : FVec F S32x2048 .f32) (v51 : FVec F S16x2048 .f32) (v69 : FVec F S32x2048 .f32) (K : Unit → Prog (TpuEff nD τ sig (Elt F) Λ₀ .tc) β) : Prog (TpuEff nD τ sig (Elt F) Λ₀ .tc) β := do
  let v83 : BitVec 1 := Scalar.cmpi .eq arg0 1#32
  let v84 : BitVec 32 := Scalar.extui v83
  let v85 : BitVec 1 := Scalar.cmpi .ne v84 0#32
  if k0_h4 : v85 = 1#1 then do
    let ⟨v105, v120, v121, cst_69⟩ : Σ' (v105 : FVec F S32x2048 .f32) (v120 : FVec F S32x2048 .f32) (v121 : Vec F S32x16 .f32), FVec F S32x16 .f32 ← k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v16 v34 v51 v69
    let ⟨v130, v155, v157, c2048_i32_85⟩ : Σ' (v130 : BitVec 32) (v155 : Elt F .i32) (v157 : BitVec 1), BitVec 32 ← k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v14 v16 v51 v105 v120 v121 cst_69
    k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v14 v105 v130 v155 v157 c2048_i32_85
    let v232 : BitVec 1 ← k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v14 v105 v130
    let v260 : BitVec 32 ← k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v14 v49 v105 v120 v130 v232
    let ⟨v303, v305⟩ : Σ' (v303 : BitVec 1), BitVec 1 ← k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v49 v120 v260
    let v341 : Elt F .i32 ← k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v49 v120 v260 v303 v305
    let ⟨v379, c0_i32_184⟩ : Σ' (v379 : BitVec 32), BitVec 32 ← k0_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v49 v120 v260 v341
    tl arg2 arg26 arg27 v49 v120 v260 v379 c0_i32_184 K
  else do
    K ⟨⟩

/-- The last point's output, then the rest. -/
def ph5 {β : Type} (i : grid0.Coords) (arg2 : Memref sig .tc .smem S17 .i32) (harg2 : arg2.IsWhole) (arg3 : Memref sig .tc .vmem S4x4096 .f32) (harg3 : arg3.IsWhole) (arg4 : Memref sig .tc .vmem S4x1 .f32) (harg4 : arg4.IsWhole) (arg5 : Memref sig .tc .vmem S4x1 .f32) (harg5 : arg5.IsWhole) (arg6 : Memref sig .tc .vmem S16x1 .i32) (harg6 : arg6.IsWhole) (arg7 : Memref sig .tc .vmem S16x1 .i32) (harg7 : arg7.IsWhole) (arg8 : Memref sig .tc .vmem S1x16 .i32) (harg8 : arg8.IsWhole) (arg9 : Memref sig .tc .vmem S1x16 .i32) (harg9 : arg9.IsWhole) (arg10 : Memref sig .tc .vmem S4x32 .f32) (harg10 : arg10.IsWhole) (arg11 : Memref sig .tc .vmem S32x1 .f32) (harg11 : arg11.IsWhole) (arg12 : Memref sig .tc .vmem S64x32 .f32) (harg12 : arg12.IsWhole) (arg13 : Memref sig .tc .vmem S32x1 .f32) (harg13 : arg13.IsWhole) (arg14 : Memref sig .tc .vmem S32x32 .f32) (harg14 : arg14.IsWhole) (arg15 : Memref sig .tc .vmem S32x1 .f32) (harg15 : arg15.IsWhole) (arg16 : Memref sig .tc .vmem S96x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S1x128 .f32) (harg19 : arg19.IsWhole) (arg20 : Memref sig .tc .vmem S128x5 .f32) (harg20 : arg20.IsWhole) (arg21 : Memref sig .tc .vmem S1x5 .f32) (harg21 : arg21.IsWhole) (arg22 : Memref sig .tc .vmem S16x5 .f32) (harg22 : arg22.IsWhole) (arg23 : Memref sig .tc .vmem S32x16 .f32) (harg23 : arg23.IsWhole) (arg24 : Memref sig .tc .vmem S32x16 .f32) (harg24 : arg24.IsWhole) (arg25 : Memref sig .tc .vmem S32x16 .f32) (harg25 : arg25.IsWhole) (arg26 : Memref sig .tc .vmem S32x16 .f32) (harg26 : arg26.IsWhole) (arg27 : Memref sig .tc .vmem S32x16 .f32) (harg27 : arg27.IsWhole) (K : Unit → Prog (TpuEff nD τ sig (Elt F) Λ₀ .tc) β) : Prog (TpuEff nD τ sig (Elt F) Λ₀ .tc) β := do
  if k0_h37 : k0_cond37 i = 1#1 then do
    let ⟨v124, v125⟩ : Σ' (v124 : FVec F S16x128 .f32), Vec F S1x128 .f32 ← k0_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27
    let v131 : Vec F S128x5 .f32 ← Prog.lift (.load arg20 (Rect.unit (s := S128x5) ![0, 0] S128x5.size inb_S128x5_S128x5_0_0).toLoadRect (View.loadsAt_vmem h_S128x5))
    let v133 : Vec F S1x5 .f32 ← Prog.lift (.load arg21 (Rect.unit (s := S1x5) ![0, 0] S1x5.size inb_S1x5_S1x5_0_0).toLoadRect (View.loadsAt_vmem h_S1x5))
    let v137 : Vec F S16x5 .f32 ← Prog.lift (.load arg22 (Rect.unit (s := S16x5) ![0, 0] S16x5.size inb_S16x5_S16x5_0_0).toLoadRect (View.loadsAt_vmem h_S16x5))
    Prog.lift (.store arg22 (Rect.unit (s := S16x5) ![0, 0] S16x5.size inb_S16x5_S16x5_0_0) (k0_pay12 v124 v125 v131 v133) Finset.univ (View.stores_vmem_bits_univ h_S16x5 rfl) (.inl rfl))
    K ⟨⟩
  else do
    K ⟨⟩

set_option maxRecDepth 65536 in
/-- The body, phase by phase. -/
theorem body_eq (i : grid0.Coords) (arg2 : Memref sig .tc .smem S17 .i32) (harg2 : arg2.IsWhole) (arg3 : Memref sig .tc .vmem S4x4096 .f32) (harg3 : arg3.IsWhole) (arg4 : Memref sig .tc .vmem S4x1 .f32) (harg4 : arg4.IsWhole) (arg5 : Memref sig .tc .vmem S4x1 .f32) (harg5 : arg5.IsWhole) (arg6 : Memref sig .tc .vmem S16x1 .i32) (harg6 : arg6.IsWhole) (arg7 : Memref sig .tc .vmem S16x1 .i32) (harg7 : arg7.IsWhole) (arg8 : Memref sig .tc .vmem S1x16 .i32) (harg8 : arg8.IsWhole) (arg9 : Memref sig .tc .vmem S1x16 .i32) (harg9 : arg9.IsWhole) (arg10 : Memref sig .tc .vmem S4x32 .f32) (harg10 : arg10.IsWhole) (arg11 : Memref sig .tc .vmem S32x1 .f32) (harg11 : arg11.IsWhole) (arg12 : Memref sig .tc .vmem S64x32 .f32) (harg12 : arg12.IsWhole) (arg13 : Memref sig .tc .vmem S32x1 .f32) (harg13 : arg13.IsWhole) (arg14 : Memref sig .tc .vmem S32x32 .f32) (harg14 : arg14.IsWhole) (arg15 : Memref sig .tc .vmem S32x1 .f32) (harg15 : arg15.IsWhole) (arg16 : Memref sig .tc .vmem S96x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S1x128 .f32) (harg19 : arg19.IsWhole) (arg20 : Memref sig .tc .vmem S128x5 .f32) (harg20 : arg20.IsWhole) (arg21 : Memref sig .tc .vmem S1x5 .f32) (harg21 : arg21.IsWhole) (arg22 : Memref sig .tc .vmem S16x5 .f32) (harg22 : arg22.IsWhole) (arg23 : Memref sig .tc .vmem S32x16 .f32) (harg23 : arg23.IsWhole) (arg24 : Memref sig .tc .vmem S32x16 .f32) (harg24 : arg24.IsWhole) (arg25 : Memref sig .tc .vmem S32x16 .f32) (harg25 : arg25.IsWhole) (arg26 : Memref sig .tc .vmem S32x16 .f32) (harg26 : arg26.IsWhole) (arg27 : Memref sig .tc .vmem S32x16 .f32) (harg27 : arg27.IsWhole) : cc0__body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 = (do
    let ⟨arg0, arg1, v14, v16, v34, v38⟩ ← k0_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27
    let ⟨v49, v51, v69, v76⟩ ← k0_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg0 arg1 v38
    ph2 arg23 v16 v34 v51 v69 v76 fun _ =>
    ph3 arg8 arg9 arg12 arg13 arg23 arg24 arg25 arg26 arg27 arg0 arg1 fun _ =>
    ph4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg0 arg1 v14 v49 v16 v34 v51 v69 fun _ =>
    ph5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 fun _ => pure ⟨⟩) := rfl

variable (c : Dev nD) (i : grid0.Coords) (arg2 : Memref sig .tc .smem S17 .i32) (harg2 : arg2.IsWhole) (arg3 : Memref sig .tc .vmem S4x4096 .f32) (harg3 : arg3.IsWhole) (arg4 : Memref sig .tc .vmem S4x1 .f32) (harg4 : arg4.IsWhole) (arg5 : Memref sig .tc .vmem S4x1 .f32) (harg5 : arg5.IsWhole) (arg6 : Memref sig .tc .vmem S16x1 .i32) (harg6 : arg6.IsWhole) (arg7 : Memref sig .tc .vmem S16x1 .i32) (harg7 : arg7.IsWhole) (arg8 : Memref sig .tc .vmem S1x16 .i32) (harg8 : arg8.IsWhole) (arg9 : Memref sig .tc .vmem S1x16 .i32) (harg9 : arg9.IsWhole) (arg10 : Memref sig .tc .vmem S4x32 .f32) (harg10 : arg10.IsWhole) (arg11 : Memref sig .tc .vmem S32x1 .f32) (harg11 : arg11.IsWhole) (arg12 : Memref sig .tc .vmem S64x32 .f32) (harg12 : arg12.IsWhole) (arg13 : Memref sig .tc .vmem S32x1 .f32) (harg13 : arg13.IsWhole) (arg14 : Memref sig .tc .vmem S32x32 .f32) (harg14 : arg14.IsWhole) (arg15 : Memref sig .tc .vmem S32x1 .f32) (harg15 : arg15.IsWhole) (arg16 : Memref sig .tc .vmem S96x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S1x128 .f32) (harg19 : arg19.IsWhole) (arg20 : Memref sig .tc .vmem S128x5 .f32) (harg20 : arg20.IsWhole) (arg21 : Memref sig .tc .vmem S1x5 .f32) (harg21 : arg21.IsWhole) (arg22 : Memref sig .tc .vmem S16x5 .f32) (harg22 : arg22.IsWhole) (arg23 : Memref sig .tc .vmem S32x16 .f32) (harg23 : arg23.IsWhole) (arg24 : Memref sig .tc .vmem S32x16 .f32) (harg24 : arg24.IsWhole) (arg25 : Memref sig .tc .vmem S32x16 .f32) (harg25 : arg25.IsWhole) (arg26 : Memref sig .tc .vmem S32x16 .f32) (harg26 : arg26.IsWhole) (arg27 : Memref sig .tc .vmem S32x16 .f32) (harg27 : arg27.IsWhole)

theorem ph2_spec {β : Type} (v16 : FVec F S16x2048 .f32) (v34 : FVec F S32x2048 .f32) (v51 : FVec F S16x2048 .f32) (v69 : FVec F S32x2048 .f32) (v76 : BitVec 32)
    (f23 : Buf (Elt F) (arg23.view.loc (c : Thread nD τ)))
    (K : Unit → Prog (TpuEff nD τ sig (Elt F) Λ₀ .tc) β) (Q : β → sProp 𝕄) :
    iprop((arg23.view.loc (c : Thread nD τ) ↦{fullShare} f23) ∗
     ((arg23.view.loc (c : Thread nD τ) ↦{fullShare} (acc arg23 v76 v16 v34 v51 v69 f23)) -∗
      wp (M := 𝕄) frame (wpE (defs₀ (F := F)) Variants.none c none) Set.univ
      (K ⟨⟩) Q)) ⊢
    wp (M := 𝕄) frame (wpE (defs₀ (F := F)) Variants.none c none) Set.univ
      (ph2 arg23 v16 v34 v51 v69 v76 K) Q := by
  iintro ⟨H23, HK⟩
  unfold ph2
  sl_exec
  iapply HK $$ [H23]
  · iexact H23

theorem ph3_spec {β : Type} (a0 a1 : BitVec 32)
    (f8 : Buf (Elt F) (arg8.view.loc (c : Thread nD τ))) (f9 : Buf (Elt F) (arg9.view.loc (c : Thread nD τ))) (f12 : Buf (Elt F) (arg12.view.loc (c : Thread nD τ))) (f13 : Buf (Elt F) (arg13.view.loc (c : Thread nD τ))) (f23 : Buf (Elt F) (arg23.view.loc (c : Thread nD τ))) (f24 : Buf (Elt F) (arg24.view.loc (c : Thread nD τ))) (f25 : Buf (Elt F) (arg25.view.loc (c : Thread nD τ))) (f26 : Buf (Elt F) (arg26.view.loc (c : Thread nD τ))) (f27 : Buf (Elt F) (arg27.view.loc (c : Thread nD τ)))
    (K : Unit → Prog (TpuEff nD τ sig (Elt F) Λ₀ .tc) β) (Q : β → sProp 𝕄) :
    iprop((arg8.view.loc (c : Thread nD τ) ↦{fullShare} f8) ∗ (arg9.view.loc (c : Thread nD τ) ↦{fullShare} f9) ∗ (arg12.view.loc (c : Thread nD τ) ↦{fullShare} f12) ∗ (arg13.view.loc (c : Thread nD τ) ↦{fullShare} f13) ∗ (arg23.view.loc (c : Thread nD τ) ↦{fullShare} f23) ∗ (arg24.view.loc (c : Thread nD τ) ↦{fullShare} f24) ∗ (arg25.view.loc (c : Thread nD τ) ↦{fullShare} f25) ∗ (arg26.view.loc (c : Thread nD τ) ↦{fullShare} f26) ∗ (arg27.view.loc (c : Thread nD τ) ↦{fullShare} f27) ∗
     ((arg8.view.loc (c : Thread nD τ) ↦{fullShare} f8) -∗
      (arg9.view.loc (c : Thread nD τ) ↦{fullShare} f9) -∗
      (arg12.view.loc (c : Thread nD τ) ↦{fullShare} f12) -∗
      (arg13.view.loc (c : Thread nD τ) ↦{fullShare} f13) -∗
      (arg23.view.loc (c : Thread nD τ) ↦{fullShare} f23) -∗
      (arg24.view.loc (c : Thread nD τ) ↦{fullShare} (ini arg24 a0 a1 (k0_pay2 (arg9.view.readAt (Elt F) (Rect.unit (s := S1x16) ![0, 0] S1x16.size inb_S1x16_S1x16_0_0).toLoadRect f9) (arg8.view.readAt (Elt F) (Rect.unit (s := S1x16) ![0, 0] S1x16.size inb_S1x16_S1x16_0_0).toLoadRect f8) (arg23.view.readAt (Elt F) (Rect.unit (s := S32x16) ![0, 0] S32x16.size inb_S32x16_S32x16_0_0).toLoadRect f23) (arg12.view.readAt (Elt F) (Rect.unit (s := S64x32) ![32, 0] S32x32.size inb_S64x32_S32x32_32_0).toLoadRect f12) (arg13.view.readAt (Elt F) (Rect.unit (s := S32x1) ![0, 0] S32x1.size inb_S32x1_S32x1_0_0).toLoadRect f13)) f24)) -∗
      (arg25.view.loc (c : Thread nD τ) ↦{fullShare} (ini arg25 a0 a1 (k0_pay3 (F := F)) f25)) -∗
      (arg26.view.loc (c : Thread nD τ) ↦{fullShare} (ini arg26 a0 a1 (k0_pay4 (F := F)) f26)) -∗
      (arg27.view.loc (c : Thread nD τ) ↦{fullShare} (ini arg27 a0 a1 (k0_pay5 (F := F)) f27)) -∗
      wp (M := 𝕄) frame (wpE (defs₀ (F := F)) Variants.none c none) Set.univ
      (K ⟨⟩) Q)) ⊢
    wp (M := 𝕄) frame (wpE (defs₀ (F := F)) Variants.none c none) Set.univ
      (ph3 arg8 arg9 arg12 arg13 arg23 arg24 arg25 arg26 arg27 a0 a1 K) Q := by
  iintro ⟨H8, H9, H12, H13, H23, H24, H25, H26, H27, HK⟩
  unfold ph3
  sl_exec
  iapply HK $$ [H8] [H9] [H12] [H13] [H23] [H24] [H25] [H26] [H27]
  · iexact H8
  · iexact H9
  · iexact H12
  · iexact H13
  · iexact H23
  · iexact H24
  · iexact H25
  · iexact H26
  · iexact H27

theorem tl_spec {β : Type} (v49 : IVec S16x2048 1) (v120 : FVec F S32x2048 .f32) (v260 : BitVec 32)
    (f2 : Buf (Elt F) (arg2.view.loc (c : Thread nD τ))) (f26 : Buf (Elt F) (arg26.view.loc (c : Thread nD τ))) (f27 : Buf (Elt F) (arg27.view.loc (c : Thread nD τ)))
    (K : Unit → Prog (TpuEff nD τ sig (Elt F) Λ₀ .tc) β) (Q : β → sProp 𝕄) :
    iprop((arg2.view.loc (c : Thread nD τ) ↦{fullShare} f2) ∗ (arg26.view.loc (c : Thread nD τ) ↦{fullShare} f26) ∗ (arg27.view.loc (c : Thread nD τ) ↦{fullShare} f27) ∗
     ((arg2.view.loc (c : Thread nD τ) ↦{fullShare} f2) -∗
      (arg26.view.loc (c : Thread nD τ) ↦{fullShare} (([14, 15] : List (Fin 16)).foldl (upd arg26 (fun s => colMin s v49 v120) (guardOf (wd arg2 f2) v260)) f26)) -∗
      (arg27.view.loc (c : Thread nD τ) ↦{fullShare} (([14, 15] : List (Fin 16)).foldl (upd arg27 (fun s => colMax s v49 v120) (guardOf (wd arg2 f2) v260)) f27)) -∗
      wp (M := 𝕄) frame (wpE (defs₀ (F := F)) Variants.none c none) Set.univ
      (K ⟨⟩) Q)) ⊢
    wp (M := 𝕄) frame (wpE (defs₀ (F := F)) Variants.none c none) Set.univ
      (tl arg2 arg26 arg27 v49 v120 v260 (Scalar.extui (Scalar.andi (Scalar.cmpi .sgt (wd arg2 f2 15) v260) (Scalar.cmpi .slt (wd arg2 f2 14) (Scalar.addi v260 2048#32)))) 0#32 K) Q := by
  iintro ⟨H2, H26, H27, HK⟩
  unfold tl
  sl_exec
  iapply HK $$ [H2] [H26] [H27]
  · iexact H2
  · iexact H26
  · iexact H27

theorem ph4_spec {β : Type} (a0 a1 : BitVec 32) (v14 v49 : IVec S16x2048 1) (v16 : FVec F S16x2048 .f32) (v34 : FVec F S32x2048 .f32) (v51 : FVec F S16x2048 .f32) (v69 : FVec F S32x2048 .f32)
    (f2 : Buf (Elt F) (arg2.view.loc (c : Thread nD τ))) (f12 : Buf (Elt F) (arg12.view.loc (c : Thread nD τ))) (f14 : Buf (Elt F) (arg14.view.loc (c : Thread nD τ))) (f15 : Buf (Elt F) (arg15.view.loc (c : Thread nD τ))) (f24 : Buf (Elt F) (arg24.view.loc (c : Thread nD τ))) (f25 : Buf (Elt F) (arg25.view.loc (c : Thread nD τ))) (f26 : Buf (Elt F) (arg26.view.loc (c : Thread nD τ))) (f27 : Buf (Elt F) (arg27.view.loc (c : Thread nD τ)))
    (K : Unit → Prog (TpuEff nD τ sig (Elt F) Λ₀ .tc) β) (Q : β → sProp 𝕄) :
    iprop((arg2.view.loc (c : Thread nD τ) ↦{fullShare} f2) ∗ (arg12.view.loc (c : Thread nD τ) ↦{fullShare} f12) ∗ (arg14.view.loc (c : Thread nD τ) ↦{fullShare} f14) ∗ (arg15.view.loc (c : Thread nD τ) ↦{fullShare} f15) ∗ (arg24.view.loc (c : Thread nD τ) ↦{fullShare} f24) ∗ (arg25.view.loc (c : Thread nD τ) ↦{fullShare} f25) ∗ (arg26.view.loc (c : Thread nD τ) ↦{fullShare} f26) ∗ (arg27.view.loc (c : Thread nD τ) ↦{fullShare} f27) ∗
     ((arg2.view.loc (c : Thread nD τ) ↦{fullShare} f2) -∗
      (arg12.view.loc (c : Thread nD τ) ↦{fullShare} f12) -∗
      (arg14.view.loc (c : Thread nD τ) ↦{fullShare} f14) -∗
      (arg15.view.loc (c : Thread nD τ) ↦{fullShare} f15) -∗
      (arg24.view.loc (c : Thread nD τ) ↦{fullShare} f24) -∗
      (arg25.view.loc (c : Thread nD τ) ↦{fullShare} (snd a0 (arg25.view.writes (Elt F) f25 [⟨(Rect.unit (s := S32x16) ![0, 0] S32x16.size inb_S32x16_S32x16_0_0), k0_pay15 v16 v51 (k0_pay13 v16 v34 (arg12.view.readAt (Elt F) (Rect.unit (s := S64x32) ![0, 0] S32x32.size inb_S64x32_S32x32_0_0).toLoadRect f12) (arg24.view.readAt (Elt F) (Rect.unit (s := S32x16) ![0, 0] S32x16.size inb_S32x16_S32x16_0_0).toLoadRect f24) (arg14.view.readAt (Elt F) (Rect.unit (s := S32x32) ![0, 0] S32x32.size inb_S32x32_S32x32_0_0).toLoadRect f14) (arg15.view.readAt (Elt F) (Rect.unit (s := S32x1) ![0, 0] S32x1.size inb_S32x1_S32x1_0_0).toLoadRect f15)) (k0_pay14 v51 v69 (arg12.view.readAt (Elt F) (Rect.unit (s := S64x32) ![0, 0] S32x32.size inb_S64x32_S32x32_0_0).toLoadRect f12) (arg24.view.readAt (Elt F) (Rect.unit (s := S32x16) ![0, 0] S32x16.size inb_S32x16_S32x16_0_0).toLoadRect f24) (arg14.view.readAt (Elt F) (Rect.unit (s := S32x32) ![0, 0] S32x32.size inb_S32x32_S32x32_0_0).toLoadRect f14) (arg15.view.readAt (Elt F) (Rect.unit (s := S32x1) ![0, 0] S32x1.size inb_S32x1_S32x1_0_0).toLoadRect f15)) (arg25.view.readAt (Elt F) (Rect.unit (s := S32x16) ![0, 0] S32x16.size inb_S32x16_S32x16_0_0).toLoadRect f25) (constant S32x16 .f32 0x00000000#32)⟩]) f25)) -∗
      (arg26.view.loc (c : Thread nD τ) ↦{fullShare} (snd a0 (segs.foldl (upd arg26 (fun s => colMin s v49 (k0_pay14 v51 v69 (arg12.view.readAt (Elt F) (Rect.unit (s := S64x32) ![0, 0] S32x32.size inb_S64x32_S32x32_0_0).toLoadRect f12) (arg24.view.readAt (Elt F) (Rect.unit (s := S32x16) ![0, 0] S32x16.size inb_S32x16_S32x16_0_0).toLoadRect f24) (arg14.view.readAt (Elt F) (Rect.unit (s := S32x32) ![0, 0] S32x32.size inb_S32x32_S32x32_0_0).toLoadRect f14) (arg15.view.readAt (Elt F) (Rect.unit (s := S32x1) ![0, 0] S32x1.size inb_S32x1_S32x1_0_0).toLoadRect f15))) (guardOf (wd arg2 f2) (Scalar.addi (Scalar.muli a1 4096#32) 2048#32))) (segs.foldl (upd arg26 (fun s => colMin s v14 (k0_pay13 v16 v34 (arg12.view.readAt (Elt F) (Rect.unit (s := S64x32) ![0, 0] S32x32.size inb_S64x32_S32x32_0_0).toLoadRect f12) (arg24.view.readAt (Elt F) (Rect.unit (s := S32x16) ![0, 0] S32x16.size inb_S32x16_S32x16_0_0).toLoadRect f24) (arg14.view.readAt (Elt F) (Rect.unit (s := S32x32) ![0, 0] S32x32.size inb_S32x32_S32x32_0_0).toLoadRect f14) (arg15.view.readAt (Elt F) (Rect.unit (s := S32x1) ![0, 0] S32x1.size inb_S32x1_S32x1_0_0).toLoadRect f15))) (guardOf (wd arg2 f2) (Scalar.addi (Scalar.muli a1 4096#32) 0#32))) f26)) f26)) -∗
      (arg27.view.loc (c : Thread nD τ) ↦{fullShare} (snd a0 (segs.foldl (upd arg27 (fun s => colMax s v49 (k0_pay14 v51 v69 (arg12.view.readAt (Elt F) (Rect.unit (s := S64x32) ![0, 0] S32x32.size inb_S64x32_S32x32_0_0).toLoadRect f12) (arg24.view.readAt (Elt F) (Rect.unit (s := S32x16) ![0, 0] S32x16.size inb_S32x16_S32x16_0_0).toLoadRect f24) (arg14.view.readAt (Elt F) (Rect.unit (s := S32x32) ![0, 0] S32x32.size inb_S32x32_S32x32_0_0).toLoadRect f14) (arg15.view.readAt (Elt F) (Rect.unit (s := S32x1) ![0, 0] S32x1.size inb_S32x1_S32x1_0_0).toLoadRect f15))) (guardOf (wd arg2 f2) (Scalar.addi (Scalar.muli a1 4096#32) 2048#32))) (segs.foldl (upd arg27 (fun s => colMax s v14 (k0_pay13 v16 v34 (arg12.view.readAt (Elt F) (Rect.unit (s := S64x32) ![0, 0] S32x32.size inb_S64x32_S32x32_0_0).toLoadRect f12) (arg24.view.readAt (Elt F) (Rect.unit (s := S32x16) ![0, 0] S32x16.size inb_S32x16_S32x16_0_0).toLoadRect f24) (arg14.view.readAt (Elt F) (Rect.unit (s := S32x32) ![0, 0] S32x32.size inb_S32x32_S32x32_0_0).toLoadRect f14) (arg15.view.readAt (Elt F) (Rect.unit (s := S32x1) ![0, 0] S32x1.size inb_S32x1_S32x1_0_0).toLoadRect f15))) (guardOf (wd arg2 f2) (Scalar.addi (Scalar.muli a1 4096#32) 0#32))) f27)) f27)) -∗
      wp (M := 𝕄) frame (wpE (defs₀ (F := F)) Variants.none c none) Set.univ
      (K ⟨⟩) Q)) ⊢
    wp (M := 𝕄) frame (wpE (defs₀ (F := F)) Variants.none c none) Set.univ
      (ph4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 a0 a1 v14 v49 v16 v34 v51 v69 K) Q := by
  iintro ⟨H2, H12, H14, H15, H24, H25, H26, H27, HK⟩
  unfold ph4
  dsimp only
  split
  · rename_i hc
    simp only [snd, dif_pos hc]
    iapply part1_spec
    isplitl [H12]; · iexact H12
    isplitl [H14]; · iexact H14
    isplitl [H15]; · iexact H15
    isplitl [H24]; · iexact H24
    isplitl [H25]; · iexact H25
    iintro H12 H14 H15 H24 H25
    iapply part2_spec
    isplitl [H2]; · iexact H2
    isplitl [H25]; · iexact H25
    isplitl [H26]; · iexact H26
    isplitl [H27]; · iexact H27
    iintro H2 H25 H26 H27
    iapply part3_spec
    isplitl [H2]; · iexact H2
    isplitl [H26]; · iexact H26
    isplitl [H27]; · iexact H27
    iintro H2 H26 H27
    iapply part4_spec
    isplitl [H2]; · iexact H2
    isplitl [H26]; · iexact H26
    isplitl [H27]; · iexact H27
    iintro H2 H26 H27
    iapply part5_spec
    isplitl [H2]; · iexact H2
    isplitl [H26]; · iexact H26
    isplitl [H27]; · iexact H27
    iintro H2 H26 H27
    iapply part6_spec
    isplitl [H2]; · iexact H2
    isplitl [H26]; · iexact H26
    isplitl [H27]; · iexact H27
    iintro H2 H26 H27
    iapply part7_spec
    isplitl [H2]; · iexact H2
    isplitl [H26]; · iexact H26
    isplitl [H27]; · iexact H27
    iintro H2 H26 H27
    iapply part8_spec
    isplitl [H2]; · iexact H2
    isplitl [H26]; · iexact H26
    isplitl [H27]; · iexact H27
    iintro H2 H26 H27
    iapply tl_spec
    isplitl [H2]; · iexact H2
    isplitl [H26]; · iexact H26
    isplitl [H27]; · iexact H27
    iintro H2 H26 H27
    iapply HK $$ [H2] [H12] [H14] [H15] [H24] [H25] [H26] [H27]
    · iexact H2
    · iexact H12
    · iexact H14
    · iexact H15
    · iexact H24
    · iexact H25
    · rw [segs_two]; iexact H26
    · rw [segs_two]; iexact H27
  rename_i hc
  simp only [snd, dif_neg hc]
  iapply HK $$ [H2] [H12] [H14] [H15] [H24] [H25] [H26] [H27]
  · iexact H2
  · iexact H12
  · iexact H14
  · iexact H15
  · iexact H24
  · iexact H25
  · iexact H26
  · iexact H27

theorem ph5_spec {β : Type}
    (f8 : Buf (Elt F) (arg8.view.loc (c : Thread nD τ))) (f9 : Buf (Elt F) (arg9.view.loc (c : Thread nD τ))) (f16 : Buf (Elt F) (arg16.view.loc (c : Thread nD τ))) (f17 : Buf (Elt F) (arg17.view.loc (c : Thread nD τ))) (f18 : Buf (Elt F) (arg18.view.loc (c : Thread nD τ))) (f19 : Buf (Elt F) (arg19.view.loc (c : Thread nD τ))) (f20 : Buf (Elt F) (arg20.view.loc (c : Thread nD τ))) (f21 : Buf (Elt F) (arg21.view.loc (c : Thread nD τ))) (f22 : Buf (Elt F) (arg22.view.loc (c : Thread nD τ))) (f25 : Buf (Elt F) (arg25.view.loc (c : Thread nD τ))) (f26 : Buf (Elt F) (arg26.view.loc (c : Thread nD τ))) (f27 : Buf (Elt F) (arg27.view.loc (c : Thread nD τ)))
    (K : Unit → Prog (TpuEff nD τ sig (Elt F) Λ₀ .tc) β) (Q : β → sProp 𝕄) :
    iprop((arg8.view.loc (c : Thread nD τ) ↦{fullShare} f8) ∗ (arg9.view.loc (c : Thread nD τ) ↦{fullShare} f9) ∗ (arg16.view.loc (c : Thread nD τ) ↦{fullShare} f16) ∗ (arg17.view.loc (c : Thread nD τ) ↦{fullShare} f17) ∗ (arg18.view.loc (c : Thread nD τ) ↦{fullShare} f18) ∗ (arg19.view.loc (c : Thread nD τ) ↦{fullShare} f19) ∗ (arg20.view.loc (c : Thread nD τ) ↦{fullShare} f20) ∗ (arg21.view.loc (c : Thread nD τ) ↦{fullShare} f21) ∗ (arg22.view.loc (c : Thread nD τ) ↦{fullShare} f22) ∗ (arg25.view.loc (c : Thread nD τ) ↦{fullShare} f25) ∗ (arg26.view.loc (c : Thread nD τ) ↦{fullShare} f26) ∗ (arg27.view.loc (c : Thread nD τ) ↦{fullShare} f27) ∗
     ((arg8.view.loc (c : Thread nD τ) ↦{fullShare} f8) -∗
      (arg9.view.loc (c : Thread nD τ) ↦{fullShare} f9) -∗
      (arg16.view.loc (c : Thread nD τ) ↦{fullShare} f16) -∗
      (arg17.view.loc (c : Thread nD τ) ↦{fullShare} f17) -∗
      (arg18.view.loc (c : Thread nD τ) ↦{fullShare} f18) -∗
      (arg19.view.loc (c : Thread nD τ) ↦{fullShare} f19) -∗
      (arg20.view.loc (c : Thread nD τ) ↦{fullShare} f20) -∗
      (arg21.view.loc (c : Thread nD τ) ↦{fullShare} f21) -∗
      (arg22.view.loc (c : Thread nD τ) ↦{fullShare} (fin arg22 i (k0_pay12 (k0_pay106 (arg9.view.readAt (Elt F) (Rect.unit (s := S1x16) ![0, 0] S1x16.size inb_S1x16_S1x16_0_0).toLoadRect f9) (arg8.view.readAt (Elt F) (Rect.unit (s := S1x16) ![0, 0] S1x16.size inb_S1x16_S1x16_0_0).toLoadRect f8) (arg25.view.readAt (Elt F) (Rect.unit (s := S32x16) ![0, 0] S32x16.size inb_S32x16_S32x16_0_0).toLoadRect f25) (arg26.view.readAt (Elt F) (Rect.unit (s := S32x16) ![0, 0] S32x16.size inb_S32x16_S32x16_0_0).toLoadRect f26) (arg27.view.readAt (Elt F) (Rect.unit (s := S32x16) ![0, 0] S32x16.size inb_S32x16_S32x16_0_0).toLoadRect f27) (arg16.view.readAt (Elt F) (Rect.unit (s := S96x128) ![0, 0] S96x128.size inb_S96x128_S96x128_0_0).toLoadRect f16) (arg17.view.readAt (Elt F) (Rect.unit (s := S1x128) ![0, 0] S1x128.size inb_S1x128_S1x128_0_0).toLoadRect f17) (arg18.view.readAt (Elt F) (Rect.unit (s := S128x128) ![0, 0] S128x128.size inb_S128x128_S128x128_0_0).toLoadRect f18)) (arg19.view.readAt (Elt F) (Rect.unit (s := S1x128) ![0, 0] S1x128.size inb_S1x128_S1x128_0_0).toLoadRect f19) (arg20.view.readAt (Elt F) (Rect.unit (s := S128x5) ![0, 0] S128x5.size inb_S128x5_S128x5_0_0).toLoadRect f20) (arg21.view.readAt (Elt F) (Rect.unit (s := S1x5) ![0, 0] S1x5.size inb_S1x5_S1x5_0_0).toLoadRect f21)) f22)) -∗
      (arg25.view.loc (c : Thread nD τ) ↦{fullShare} f25) -∗
      (arg26.view.loc (c : Thread nD τ) ↦{fullShare} f26) -∗
      (arg27.view.loc (c : Thread nD τ) ↦{fullShare} f27) -∗
      wp (M := 𝕄) frame (wpE (defs₀ (F := F)) Variants.none c none) Set.univ
      (K ⟨⟩) Q)) ⊢
    wp (M := 𝕄) frame (wpE (defs₀ (F := F)) Variants.none c none) Set.univ
      (ph5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 K) Q := by
  iintro ⟨H8, H9, H16, H17, H18, H19, H20, H21, H22, H25, H26, H27, HK⟩
  unfold ph5
  unfold fin
  split
  · rename_i hc
    iapply part9_spec
    isplitl [H8]; · iexact H8
    isplitl [H9]; · iexact H9
    isplitl [H16]; · iexact H16
    isplitl [H17]; · iexact H17
    isplitl [H18]; · iexact H18
    isplitl [H19]; · iexact H19
    isplitl [H25]; · iexact H25
    isplitl [H26]; · iexact H26
    isplitl [H27]; · iexact H27
    iintro H8 H9 H16 H17 H18 H19 H25 H26 H27
    sl_exec
    iapply HK $$ [H8] [H9] [H16] [H17] [H18] [H19] [H20] [H21] [H22] [H25] [H26] [H27]
    · iexact H8
    · iexact H9
    · iexact H16
    · iexact H17
    · iexact H18
    · iexact H19
    · iexact H20
    · iexact H21
    · iexact H22
    · iexact H25
    · iexact H26
    · iexact H27
  rename_i hc
  iapply HK $$ [H8] [H9] [H16] [H17] [H18] [H19] [H20] [H21] [H22] [H25] [H26] [H27]
  · iexact H8
  · iexact H9
  · iexact H16
  · iexact H17
  · iexact H18
  · iexact H19
  · iexact H20
  · iexact H21
  · iexact H22
  · iexact H25
  · iexact H26
  · iexact H27

end Cert.KernelIdeal.Hand
-- ==== Proof.Point.lean ====
module
public import proofs.«01_k».proof.Proof.Gen.KernelIdeal.Frame
public import proofs.«01_k».proof.Proof.Phases
@[expose] public section
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-- What one grid point reads from its input blocks. -/
structure Blk (F : FTy → Type) [FloatOps F] where
  cu : Fin 17 → BitVec 32
  xa : Vec F S4x2048 .f32
  xb : Vec F S4x2048 .f32
  mean : Vec F S4x1 .f32
  inv : Vec F S4x1 .f32
  sc : Vec F S16x1 .i32
  ec : Vec F S16x1 .i32
  sr : Vec F S1x16 .i32
  er : Vec F S1x16 .i32
  w0 : Vec F S4x32 .f32
  b0 : Vec F S32x1 .f32
  w1a : Vec F S32x32 .f32
  w1b : Vec F S32x32 .f32
  b1 : Vec F S32x1 .f32
  w2 : Vec F S32x32 .f32
  b2 : Vec F S32x1 .f32
  w4 : Vec F S96x128 .f32
  b4 : Vec F S1x128 .f32
  w5 : Vec F S128x128 .f32
  b5 : Vec F S1x128 .f32
  wo : Vec F S128x5 .f32
  bo : Vec F S1x5 .f32

/-- The reads of a grid point, from the blocks. -/
def blk (X2 : Vec F S17 .i32) (X3 : Vec F S4x4096 .f32) (X4 : Vec F S4x1 .f32) (X5 : Vec F S4x1 .f32) (X6 : Vec F S16x1 .i32) (X7 : Vec F S16x1 .i32) (X8 : Vec F S1x16 .i32) (X9 : Vec F S1x16 .i32) (X10 : Vec F S4x32 .f32) (X11 : Vec F S32x1 .f32) (X12 : Vec F S64x32 .f32) (X13 : Vec F S32x1 .f32) (X14 : Vec F S32x32 .f32) (X15 : Vec F S32x1 .f32) (X16 : Vec F S96x128 .f32) (X17 : Vec F S1x128 .f32) (X18 : Vec F S128x128 .f32) (X19 : Vec F S1x128 .f32) (X20 : Vec F S128x5 .f32) (X21 : Vec F S1x5 .f32) : Blk F where
  cu k := View.ld X2 (Rect.unit (s := S17) ![k.val] S1.size (by
    intro a; have := k.isLt; match a with
    | 0 => exact this)) (Shape.Idx.first (numel1_S1.symm ▸ Nat.one_pos))
  xa := View.ld X3 (Rect.unit (s := S4x4096) ![0, 0] S4x2048.size inb_S4x4096_S4x2048_0_0)
  xb := View.ld X3 (Rect.unit (s := S4x4096) ![0, 2048] S4x2048.size inb_S4x4096_S4x2048_0_2048)
  w1a := View.ld X12 (Rect.unit (s := S64x32) ![0, 0] S32x32.size inb_S64x32_S32x32_0_0)
  w1b := View.ld X12 (Rect.unit (s := S64x32) ![32, 0] S32x32.size inb_S64x32_S32x32_32_0)
  mean := View.ld X4 (Rect.unit (s := S4x1) ![0, 0] S4x1.size inb_S4x1_S4x1_0_0)
  inv := View.ld X5 (Rect.unit (s := S4x1) ![0, 0] S4x1.size inb_S4x1_S4x1_0_0)
  sc := View.ld X6 (Rect.unit (s := S16x1) ![0, 0] S16x1.size inb_S16x1_S16x1_0_0)
  ec := View.ld X7 (Rect.unit (s := S16x1) ![0, 0] S16x1.size inb_S16x1_S16x1_0_0)
  sr := View.ld X8 (Rect.unit (s := S1x16) ![0, 0] S1x16.size inb_S1x16_S1x16_0_0)
  er := View.ld X9 (Rect.unit (s := S1x16) ![0, 0] S1x16.size inb_S1x16_S1x16_0_0)
  w0 := View.ld X10 (Rect.unit (s := S4x32) ![0, 0] S4x32.size inb_S4x32_S4x32_0_0)
  b0 := View.ld X11 (Rect.unit (s := S32x1) ![0, 0] S32x1.size inb_S32x1_S32x1_0_0)
  b1 := View.ld X13 (Rect.unit (s := S32x1) ![0, 0] S32x1.size inb_S32x1_S32x1_0_0)
  w2 := View.ld X14 (Rect.unit (s := S32x32) ![0, 0] S32x32.size inb_S32x32_S32x32_0_0)
  b2 := View.ld X15 (Rect.unit (s := S32x1) ![0, 0] S32x1.size inb_S32x1_S32x1_0_0)
  w4 := View.ld X16 (Rect.unit (s := S96x128) ![0, 0] S96x128.size inb_S96x128_S96x128_0_0)
  b4 := View.ld X17 (Rect.unit (s := S1x128) ![0, 0] S1x128.size inb_S1x128_S1x128_0_0)
  w5 := View.ld X18 (Rect.unit (s := S128x128) ![0, 0] S128x128.size inb_S128x128_S128x128_0_0)
  b5 := View.ld X19 (Rect.unit (s := S1x128) ![0, 0] S1x128.size inb_S1x128_S1x128_0_0)
  wo := View.ld X20 (Rect.unit (s := S128x5) ![0, 0] S128x5.size inb_S128x5_S128x5_0_0)
  bo := View.ld X21 (Rect.unit (s := S1x5) ![0, 0] S1x5.size inb_S1x5_S1x5_0_0)

variable (i : grid0.Coords) (B : Blk F)
/-- The point's two coordinates as words. -/
def ca0 : BitVec 32 := BitVec.ofNat 32 (i 0).val
def ca1 : BitVec 32 := BitVec.ofNat 32 (i 1).val
/-- The masks of the two halves, as bits and as numbers, and the first layer's outputs on them. -/
def mkA : IVec S16x2048 1 := k0_pay107 (F := F) i B.sc B.ec
def ohA : FVec F S16x2048 .f32 := k0_pay108 (F := F) i B.sc B.ec
def lyA : FVec F S32x2048 .f32 := k0_pay109 B.xa B.mean B.inv B.w0 B.b0
def mkB : IVec S16x2048 1 := k0_pay111 (F := F) (k0_pay110 i) B.sc B.ec
def ohB : FVec F S16x2048 .f32 := k0_pay112 (F := F) (k0_pay110 i) B.sc B.ec
def lyB : FVec F S32x2048 .f32 := k0_pay113 B.xb B.mean B.inv B.w0 B.b0

/-- A whole buffer, read. -/
def rd {c : Dev nD} (M : Memref sig .tc .vmem S32x16 .f32) (f : Buf (Elt F) (M.view.loc (c : Thread nD τ))) : Vec F S32x16 .f32 :=
  M.view.readAt (Elt F) (Rect.unit (s := S32x16) ![0, 0] S32x16.size inb_S32x16_S32x16_0_0).toLoadRect f

variable {c : Dev nD} (M23 M24 M25 M26 M27 : Memref sig .tc .vmem S32x16 .f32)
/-- The segment sums after the point. -/
def n23 (f : Buf (Elt F) (M23.view.loc (c : Thread nD τ))) : Buf (Elt F) (M23.view.loc (c : Thread nD τ)) :=
  acc M23 (Scalar.extui (Scalar.cmpi .eq (ca0 i) 0#32)) (ohA i B) (lyA B) (ohB i B) (lyB B) (clr M23 (ca0 i) (ca1 i) f)
/-- The segments' second-layer term after the point, from the segment sums `s`. -/
def n24 (s : Vec F S32x16 .f32) (f : Buf (Elt F) (M24.view.loc (c : Thread nD τ))) : Buf (Elt F) (M24.view.loc (c : Thread nD τ)) :=
  ini M24 (ca0 i) (ca1 i) (k0_pay2 B.er B.sr s B.w1b B.b1) f
/-- The third layer's output on the two halves, from the segments' term `g`. -/
def hdA (g : Vec F S32x16 .f32) : FVec F S32x2048 .f32 := k0_pay13 (ohA i B) (lyA B) B.w1a g B.w2 B.b2
def hdB (g : Vec F S32x16 .f32) : FVec F S32x2048 .f32 := k0_pay14 (ohB i B) (lyB B) B.w1a g B.w2 B.b2
/-- The pooled sums after the point, from the segments' term `g`. -/
def n25 (g : Vec F S32x16 .f32) (f : Buf (Elt F) (M25.view.loc (c : Thread nD τ))) : Buf (Elt F) (M25.view.loc (c : Thread nD τ)) :=
  snd (ca0 i) (M25.view.writes (Elt F) (ini M25 (ca0 i) (ca1 i) (k0_pay3 (F := F)) f)
    [⟨Rect.unit (s := S32x16) ![0, 0] S32x16.size inb_S32x16_S32x16_0_0, k0_pay15 (ohA i B) (ohB i B) (hdA i B g) (hdB i B g)
      (rd M25 (ini M25 (ca0 i) (ca1 i) (k0_pay3 (F := F)) f)) (constant S32x16 .f32 0x00000000#32)⟩]) (ini M25 (ca0 i) (ca1 i) (k0_pay3 (F := F)) f)
/-- The pooled minima after the point, from the segments' term `g`. -/
def n26 (g : Vec F S32x16 .f32) (f : Buf (Elt F) (M26.view.loc (c : Thread nD τ))) : Buf (Elt F) (M26.view.loc (c : Thread nD τ)) :=
  snd (ca0 i) (segs.foldl (upd M26 (fun s => colMin s (mkB i B) (hdB i B g)) (guardOf B.cu (Scalar.addi (Scalar.muli (ca1 i) 4096#32) 2048#32)))
    (segs.foldl (upd M26 (fun s => colMin s (mkA i B) (hdA i B g)) (guardOf B.cu (Scalar.addi (Scalar.muli (ca1 i) 4096#32) 0#32)))
      (ini M26 (ca0 i) (ca1 i) (k0_pay4 (F := F)) f))) (ini M26 (ca0 i) (ca1 i) (k0_pay4 (F := F)) f)
/-- The pooled maxima after the point, from the segments' term `g`. -/
def n27 (g : Vec F S32x16 .f32) (f : Buf (Elt F) (M27.view.loc (c : Thread nD τ))) : Buf (Elt F) (M27.view.loc (c : Thread nD τ)) :=
  snd (ca0 i) (segs.foldl (upd M27 (fun s => colMax s (mkB i B) (hdB i B g)) (guardOf B.cu (Scalar.addi (Scalar.muli (ca1 i) 4096#32) 2048#32)))
    (segs.foldl (upd M27 (fun s => colMax s (mkA i B) (hdA i B g)) (guardOf B.cu (Scalar.addi (Scalar.muli (ca1 i) 4096#32) 0#32)))
      (ini M27 (ca0 i) (ca1 i) (k0_pay5 (F := F)) f))) (ini M27 (ca0 i) (ca1 i) (k0_pay5 (F := F)) f)
/-- The output, from the pooled sums, minima and maxima. -/
def outv (p mn mx : Vec F S32x16 .f32) : Vec F S16x5 .f32 :=
  k0_pay12 (k0_pay106 B.er B.sr p mn mx B.w4 B.b4 B.w5) B.b5 B.wo B.bo

section
variable (c : Dev nD) (i : grid0.Coords) (arg2 : Memref sig .tc .smem S17 .i32) (harg2 : arg2.IsWhole) (arg3 : Memref sig .tc .vmem S4x4096 .f32) (harg3 : arg3.IsWhole) (arg4 : Memref sig .tc .vmem S4x1 .f32) (harg4 : arg4.IsWhole) (arg5 : Memref sig .tc .vmem S4x1 .f32) (harg5 : arg5.IsWhole) (arg6 : Memref sig .tc .vmem S16x1 .i32) (harg6 : arg6.IsWhole) (arg7 : Memref sig .tc .vmem S16x1 .i32) (harg7 : arg7.IsWhole) (arg8 : Memref sig .tc .vmem S1x16 .i32) (harg8 : arg8.IsWhole) (arg9 : Memref sig .tc .vmem S1x16 .i32) (harg9 : arg9.IsWhole) (arg10 : Memref sig .tc .vmem S4x32 .f32) (harg10 : arg10.IsWhole) (arg11 : Memref sig .tc .vmem S32x1 .f32) (harg11 : arg11.IsWhole) (arg12 : Memref sig .tc .vmem S64x32 .f32) (harg12 : arg12.IsWhole) (arg13 : Memref sig .tc .vmem S32x1 .f32) (harg13 : arg13.IsWhole) (arg14 : Memref sig .tc .vmem S32x32 .f32) (harg14 : arg14.IsWhole) (arg15 : Memref sig .tc .vmem S32x1 .f32) (harg15 : arg15.IsWhole) (arg16 : Memref sig .tc .vmem S96x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S1x128 .f32) (harg19 : arg19.IsWhole) (arg20 : Memref sig .tc .vmem S128x5 .f32) (harg20 : arg20.IsWhole) (arg21 : Memref sig .tc .vmem S1x5 .f32) (harg21 : arg21.IsWhole) (arg22 : Memref sig .tc .vmem S16x5 .f32) (harg22 : arg22.IsWhole) (arg23 : Memref sig .tc .vmem S32x16 .f32) (harg23 : arg23.IsWhole) (arg24 : Memref sig .tc .vmem S32x16 .f32) (harg24 : arg24.IsWhole) (arg25 : Memref sig .tc .vmem S32x16 .f32) (harg25 : arg25.IsWhole) (arg26 : Memref sig .tc .vmem S32x16 .f32) (harg26 : arg26.IsWhole) (arg27 : Memref sig .tc .vmem S32x16 .f32) (harg27 : arg27.IsWhole)

set_option pp.maxSteps 300 in
set_option maxHeartbeats 4000000 in
theorem point_spec (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) (f17 : Buf (Elt F) (arg17.view.loc (c : Thread nD τ))) (f18 : Buf (Elt F) (arg18.view.loc (c : Thread nD τ))) (f19 : Buf (Elt F) (arg19.view.loc (c : Thread nD τ))) (f20 : Buf (Elt F) (arg20.view.loc (c : Thread nD τ))) (f21 : Buf (Elt F) (arg21.view.loc (c : Thread nD τ))) (f22 : Buf (Elt F) (arg22.view.loc (c : Thread nD τ))) (f23 : Buf (Elt F) (arg23.view.loc (c : Thread nD τ))) (f24 : Buf (Elt F) (arg24.view.loc (c : Thread nD τ))) (f25 : Buf (Elt F) (arg25.view.loc (c : Thread nD τ))) (f26 : Buf (Elt F) (arg26.view.loc (c : Thread nD τ))) (f27 : Buf (Elt F) (arg27.view.loc (c : Thread nD τ)))
    (B : Blk F) (hB : B = (blk (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11) (arg12.view.read (Elt F) f12) (arg13.view.read (Elt F) f13) (arg14.view.read (Elt F) f14) (arg15.view.read (Elt F) f15) (arg16.view.read (Elt F) f16) (arg17.view.read (Elt F) f17) (arg18.view.read (Elt F) f18) (arg19.view.read (Elt F) f19) (arg20.view.read (Elt F) f20) (arg21.view.read (Elt F) f21))) (Q : PUnit → sProp 𝕄) :
    iprop((arg2.view.loc (c : Thread nD τ) ↦{fullShare} f2) ∗ (arg3.view.loc (c : Thread nD τ) ↦{fullShare} f3) ∗ (arg4.view.loc (c : Thread nD τ) ↦{fullShare} f4) ∗ (arg5.view.loc (c : Thread nD τ) ↦{fullShare} f5) ∗ (arg6.view.loc (c : Thread nD τ) ↦{fullShare} f6) ∗ (arg7.view.loc (c : Thread nD τ) ↦{fullShare} f7) ∗ (arg8.view.loc (c : Thread nD τ) ↦{fullShare} f8) ∗ (arg9.view.loc (c : Thread nD τ) ↦{fullShare} f9) ∗ (arg10.view.loc (c : Thread nD τ) ↦{fullShare} f10) ∗ (arg11.view.loc (c : Thread nD τ) ↦{fullShare} f11) ∗ (arg12.view.loc (c : Thread nD τ) ↦{fullShare} f12) ∗ (arg13.view.loc (c : Thread nD τ) ↦{fullShare} f13) ∗ (arg14.view.loc (c : Thread nD τ) ↦{fullShare} f14) ∗ (arg15.view.loc (c : Thread nD τ) ↦{fullShare} f15) ∗ (arg16.view.loc (c : Thread nD τ) ↦{fullShare} f16) ∗ (arg17.view.loc (c : Thread nD τ) ↦{fullShare} f17) ∗ (arg18.view.loc (c : Thread nD τ) ↦{fullShare} f18) ∗ (arg19.view.loc (c : Thread nD τ) ↦{fullShare} f19) ∗ (arg20.view.loc (c : Thread nD τ) ↦{fullShare} f20) ∗ (arg21.view.loc (c : Thread nD τ) ↦{fullShare} f21) ∗ (arg22.view.loc (c : Thread nD τ) ↦{fullShare} f22) ∗ (arg23.view.loc (c : Thread nD τ) ↦{fullShare} f23) ∗ (arg24.view.loc (c : Thread nD τ) ↦{fullShare} f24) ∗ (arg25.view.loc (c : Thread nD τ) ↦{fullShare} f25) ∗ (arg26.view.loc (c : Thread nD τ) ↦{fullShare} f26) ∗ (arg27.view.loc (c : Thread nD τ) ↦{fullShare} f27) ∗
     ((arg2.view.loc (c : Thread nD τ) ↦{fullShare} f2) -∗
      (arg3.view.loc (c : Thread nD τ) ↦{fullShare} f3) -∗
      (arg4.view.loc (c : Thread nD τ) ↦{fullShare} f4) -∗
      (arg5.view.loc (c : Thread nD τ) ↦{fullShare} f5) -∗
      (arg6.view.loc (c : Thread nD τ) ↦{fullShare} f6) -∗
      (arg7.view.loc (c : Thread nD τ) ↦{fullShare} f7) -∗
      (arg8.view.loc (c : Thread nD τ) ↦{fullShare} f8) -∗
      (arg9.view.loc (c : Thread nD τ) ↦{fullShare} f9) -∗
      (arg10.view.loc (c : Thread nD τ) ↦{fullShare} f10) -∗
      (arg11.view.loc (c : Thread nD τ) ↦{fullShare} f11) -∗
      (arg12.view.loc (c : Thread nD τ) ↦{fullShare} f12) -∗
      (arg13.view.loc (c : Thread nD τ) ↦{fullShare} f13) -∗
      (arg14.view.loc (c : Thread nD τ) ↦{fullShare} f14) -∗
      (arg15.view.loc (c : Thread nD τ) ↦{fullShare} f15) -∗
      (arg16.view.loc (c : Thread nD τ) ↦{fullShare} f16) -∗
      (arg17.view.loc (c : Thread nD τ) ↦{fullShare} f17) -∗
      (arg18.view.loc (c : Thread nD τ) ↦{fullShare} f18) -∗
      (arg19.view.loc (c : Thread nD τ) ↦{fullShare} f19) -∗
      (arg20.view.loc (c : Thread nD τ) ↦{fullShare} f20) -∗
      (arg21.view.loc (c : Thread nD τ) ↦{fullShare} f21) -∗
      (arg22.view.loc (c : Thread nD τ) ↦{fullShare} (fin arg22 i (outv B (rd arg25 (n25 i B arg25 (rd arg24 (n24 i B arg24 (rd arg23 (n23 i B arg23 f23)) f24)) f25)) (rd arg26 (n26 i B arg26 (rd arg24 (n24 i B arg24 (rd arg23 (n23 i B arg23 f23)) f24)) f26)) (rd arg27 (n27 i B arg27 (rd arg24 (n24 i B arg24 (rd arg23 (n23 i B arg23 f23)) f24)) f27))) f22)) -∗
      (arg23.view.loc (c : Thread nD τ) ↦{fullShare} (n23 i B arg23 f23)) -∗
      (arg24.view.loc (c : Thread nD τ) ↦{fullShare} (n24 i B arg24 (rd arg23 (n23 i B arg23 f23)) f24)) -∗
      (arg25.view.loc (c : Thread nD τ) ↦{fullShare} (n25 i B arg25 (rd arg24 (n24 i B arg24 (rd arg23 (n23 i B arg23 f23)) f24)) f25)) -∗
      (arg26.view.loc (c : Thread nD τ) ↦{fullShare} (n26 i B arg26 (rd arg24 (n24 i B arg24 (rd arg23 (n23 i B arg23 f23)) f24)) f26)) -∗
      (arg27.view.loc (c : Thread nD τ) ↦{fullShare} (n27 i B arg27 (rd arg24 (n24 i B arg24 (rd arg23 (n23 i B arg23 f23)) f24)) f27)) -∗ Q ⟨⟩)) ⊢
    wp (M := 𝕄) frame (wpE (defs₀ (F := F)) Variants.none c none) Set.univ
      (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) Q := by
  iintro ⟨H2, H3, H4, H5, H6, H7, H8, H9, H10, H11, H12, H13, H14, H15, H16, H17, H18, H19, H20, H21, H22, H23, H24, H25, H26, H27, HK⟩
  rw [body_eq]
  subst hB
  iapply part10_spec
  isplitl [H3]; · iexact H3
  isplitl [H4]; · iexact H4
  isplitl [H5]; · iexact H5
  isplitl [H6]; · iexact H6
  isplitl [H7]; · iexact H7
  isplitl [H10]; · iexact H10
  isplitl [H11]; · iexact H11
  iintro H3 H4 H5 H6 H7 H10 H11
  dsimp only
  iapply part11_spec
  isplitl [H3]; · iexact H3
  isplitl [H4]; · iexact H4
  isplitl [H5]; · iexact H5
  isplitl [H6]; · iexact H6
  isplitl [H7]; · iexact H7
  isplitl [H10]; · iexact H10
  isplitl [H11]; · iexact H11
  isplitl [H23]; · iexact H23
  iintro H3 H4 H5 H6 H7 H10 H11 H23
  dsimp only
  iapply ph2_spec
  isplitl [H23]; · iexact H23
  iintro H23
  iapply ph3_spec
  isplitl [H8]; · iexact H8
  isplitl [H9]; · iexact H9
  isplitl [H12]; · iexact H12
  isplitl [H13]; · iexact H13
  isplitl [H23]; · iexact H23
  isplitl [H24]; · iexact H24
  isplitl [H25]; · iexact H25
  isplitl [H26]; · iexact H26
  isplitl [H27]; · iexact H27
  iintro H8 H9 H12 H13 H23 H24 H25 H26 H27
  iapply ph4_spec
  isplitl [H2]; · iexact H2
  isplitl [H12]; · iexact H12
  isplitl [H14]; · iexact H14
  isplitl [H15]; · iexact H15
  isplitl [H24]; · iexact H24
  isplitl [H25]; · iexact H25
  isplitl [H26]; · iexact H26
  isplitl [H27]; · iexact H27
  iintro H2 H12 H14 H15 H24 H25 H26 H27
  iapply ph5_spec
  isplitl [H8]; · iexact H8
  isplitl [H9]; · iexact H9
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H25]; · iexact H25
  isplitl [H26]; · iexact H26
  isplitl [H27]; · iexact H27
  iintro H8 H9 H16 H17 H18 H19 H20 H21 H22 H25 H26 H27
  sl_step
  iapply HK $$ [H2] [H3] [H4] [H5] [H6] [H7] [H8] [H9] [H10] [H11] [H12] [H13] [H14] [H15] [H16] [H17] [H18] [H19] [H20] [H21] [H22] [H23] [H24] [H25] [H26] [H27]
  · iexact H2
  · iexact H3
  · iexact H4
  · iexact H5
  · iexact H6
  · iexact H7
  · iexact H8
  · iexact H9
  · iexact H10
  · iexact H11
  · iexact H12
  · iexact H13
  · iexact H14
  · iexact H15
  · iexact H16
  · iexact H17
  · iexact H18
  · iexact H19
  · iexact H20
  · iexact H21
  · iexact H22
  · iexact H23
  · iexact H24
  · iexact H25
  · iexact H26
  · iexact H27
end
end Cert.KernelIdeal.Hand
-- ==== Proof.Owned.lean ====
module
public import proofs.«01_k».proof.Proof.Gen.KernelIdeal.Frame
public import proofs.«01_k».proof.Proof.Point
@[expose] public section
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-- The five scratch buffers. -/
abbrev M0 : Memref sig .tc .vmem S32x16 .f32 := Memref.whole cc0_scratch0
abbrev M1 : Memref sig .tc .vmem S32x16 .f32 := Memref.whole cc0_scratch1
abbrev M2 : Memref sig .tc .vmem S32x16 .f32 := Memref.whole cc0_scratch2
abbrev M3 : Memref sig .tc .vmem S32x16 .f32 := Memref.whole cc0_scratch3
abbrev M4 : Memref sig .tc .vmem S32x16 .f32 := Memref.whole cc0_scratch4

/-- What the scratch buffers hold between two points. -/
structure St (F : FTy → Type) [FloatOps F] (c : Dev nD) where
  seg : Buf (Elt F) (M0.view.loc (c : Thread nD τ))
  tm : Buf (Elt F) (M1.view.loc (c : Thread nD τ))
  ps : Buf (Elt F) (M2.view.loc (c : Thread nD τ))
  mn : Buf (Elt F) (M3.view.loc (c : Thread nD τ))
  mx : Buf (Elt F) (M4.view.loc (c : Thread nD τ))

/-- One point's update of the scratch buffers. -/
def step {c : Dev nD} (i : grid0.Coords) (B : Blk F) (σ : St F c) : St F c where
  seg := n23 i B M0 σ.seg
  tm := n24 i B M1 (rd M0 (n23 i B M0 σ.seg)) σ.tm
  ps := n25 i B M2 (rd M1 (n24 i B M1 (rd M0 (n23 i B M0 σ.seg)) σ.tm)) σ.ps
  mn := n26 i B M3 (rd M1 (n24 i B M1 (rd M0 (n23 i B M0 σ.seg)) σ.tm)) σ.mn
  mx := n27 i B M4 (rd M1 (n24 i B M1 (rd M0 (n23 i B M0 σ.seg)) σ.tm)) σ.mx

/-- What a point computes of the output from the scratch buffers it leaves. -/
def outSt {c : Dev nD} (B : Blk F) (σ : St F c) : Vec F S16x5 .f32 := outv B (rd M2 σ.ps) (rd M3 σ.mn) (rd M4 σ.mx)

/-- The scratch buffers, held. -/
def held (c : Dev nD) (σ : St F c) : sProp 𝕄 :=
  iprop((M0.view.loc (c : Thread nD τ) ↦{fullShare} σ.seg) ∗ (M1.view.loc (c : Thread nD τ) ↦{fullShare} σ.tm) ∗
    (M2.view.loc (c : Thread nD τ) ↦{fullShare} σ.ps) ∗ (M3.view.loc (c : Thread nD τ) ↦{fullShare} σ.mn) ∗
    (M4.view.loc (c : Thread nD τ) ↦{fullShare} σ.mx))

theorem owns_open {c : Dev nD} {sp : Space} {s : Shape} {e : EltTy} (M : Memref sig .tc sp s e) (h : M.IsWhole) (X : s.Idx → Elt F e) :
    (owns (c : Thread nD τ) M fullShare X : sProp 𝕄) ⊢ iprop(∃ f, ⌜M.view.read (Elt F) f = X⌝ ∗ (M.view.loc (c : Thread nD τ) ↦{fullShare} f)) := by
  unfold owns; rw [h.set_eq_univ]

theorem owns_close {c : Dev nD} {sp : Space} {s : Shape} {e : EltTy} (M : Memref sig .tc sp s e) (h : M.IsWhole) (X : s.Idx → Elt F e)
    (f : Buf (Elt F) (M.view.loc (c : Thread nD τ))) (hf : M.view.read (Elt F) f = X) :
    iprop(M.view.loc (c : Thread nD τ) ↦{fullShare} f) ⊢ (owns (c : Thread nD τ) M fullShare X : sProp 𝕄) := by
  unfold owns; rw [h.set_eq_univ]; iintro H; iexists f; isplitr
  · ipureintro; exact hf
  · iexact H

theorem read_put {sp : Space} {κ : Kind} {s : Shape} {e : EltTy} (v : View sig κ sp s e) {off : Fin s.rank → Nat} (h : off = fun _ => 0)
    (inb : ∀ a, off a + s.size a ≤ s.size a) (f : v.ty.Contents (Elt F)) (w : s.Idx → Elt F e) :
    v.read (Elt F) (v.writes (Elt F) f [⟨Rect.unit off s.size inb, w⟩]) = w := by
  subst h; exact View.read_writes_whole v f w

theorem z2 : (![0, 0] : Fin 2 → Nat) = fun _ => 0 := by decide

theorem read_fin {c : Dev nD} (M : Memref sig .tc .vmem S16x5 .f32) (i : grid0.Coords) (w : Vec F S16x5 .f32) (f : Buf (Elt F) (M.view.loc (c : Thread nD τ))) :
    M.view.read (Elt F) (fin M i w f) = if k0_cond37 i = 1#1 then w else M.view.read (Elt F) f := by
  unfold fin; split
  · exact read_put M.view z2 _ f w
  · rfl

section

set_option maxHeartbeats 1000000 in
/-- The body at a point, from what its buffers hold. -/
theorem point_owns (c : Dev nD) (i : grid0.Coords) (arg2 : Memref sig .tc .smem S17 .i32) (harg2 : arg2.IsWhole) (arg3 : Memref sig .tc .vmem S4x4096 .f32) (harg3 : arg3.IsWhole) (arg4 : Memref sig .tc .vmem S4x1 .f32) (harg4 : arg4.IsWhole) (arg5 : Memref sig .tc .vmem S4x1 .f32) (harg5 : arg5.IsWhole) (arg6 : Memref sig .tc .vmem S16x1 .i32) (harg6 : arg6.IsWhole) (arg7 : Memref sig .tc .vmem S16x1 .i32) (harg7 : arg7.IsWhole) (arg8 : Memref sig .tc .vmem S1x16 .i32) (harg8 : arg8.IsWhole) (arg9 : Memref sig .tc .vmem S1x16 .i32) (harg9 : arg9.IsWhole) (arg10 : Memref sig .tc .vmem S4x32 .f32) (harg10 : arg10.IsWhole) (arg11 : Memref sig .tc .vmem S32x1 .f32) (harg11 : arg11.IsWhole) (arg12 : Memref sig .tc .vmem S64x32 .f32) (harg12 : arg12.IsWhole) (arg13 : Memref sig .tc .vmem S32x1 .f32) (harg13 : arg13.IsWhole) (arg14 : Memref sig .tc .vmem S32x32 .f32) (harg14 : arg14.IsWhole) (arg15 : Memref sig .tc .vmem S32x1 .f32) (harg15 : arg15.IsWhole) (arg16 : Memref sig .tc .vmem S96x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S1x128 .f32) (harg19 : arg19.IsWhole) (arg20 : Memref sig .tc .vmem S128x5 .f32) (harg20 : arg20.IsWhole) (arg21 : Memref sig .tc .vmem S1x5 .f32) (harg21 : arg21.IsWhole) (arg22 : Memref sig .tc .vmem S16x5 .f32) (harg22 : arg22.IsWhole) (X2 : Vec F S17 .i32) (X3 : Vec F S4x4096 .f32) (X4 : Vec F S4x1 .f32) (X5 : Vec F S4x1 .f32) (X6 : Vec F S16x1 .i32) (X7 : Vec F S16x1 .i32) (X8 : Vec F S1x16 .i32) (X9 : Vec F S1x16 .i32) (X10 : Vec F S4x32 .f32) (X11 : Vec F S32x1 .f32) (X12 : Vec F S64x32 .f32) (X13 : Vec F S32x1 .f32) (X14 : Vec F S32x32 .f32) (X15 : Vec F S32x1 .f32) (X16 : Vec F S96x128 .f32) (X17 : Vec F S1x128 .f32) (X18 : Vec F S128x128 .f32) (X19 : Vec F S1x128 .f32) (X20 : Vec F S128x5 .f32) (X21 : Vec F S1x5 .f32) (X22 : Vec F S16x5 .f32) (B : Blk F) (hB : B = blk X2 X3 X4 X5 X6 X7 X8 X9 X10 X11 X12 X13 X14 X15 X16 X17 X18 X19 X20 X21) (σ : St F c) :
    iprop(held c σ ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare X16 ∗ owns (c : Thread nD τ) arg17 fullShare X17 ∗ owns (c : Thread nD τ) arg18 fullShare X18 ∗ owns (c : Thread nD τ) arg19 fullShare X19 ∗ owns (c : Thread nD τ) arg20 fullShare X20 ∗ owns (c : Thread nD τ) arg21 fullShare X21 ∗ owns (c : Thread nD τ) arg22 fullShare X22) ⊢
    wp (M := 𝕄) frame (wpE (defs₀ (F := F)) Variants.none c none) Set.univ (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 M0 (Memref.isWhole_whole _) M1 (Memref.isWhole_whole _) M2 (Memref.isWhole_whole _) M3 (Memref.isWhole_whole _) M4 (Memref.isWhole_whole _))
      (fun _ => iprop(held c (step i B σ) ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare X16 ∗ owns (c : Thread nD τ) arg17 fullShare X17 ∗ owns (c : Thread nD τ) arg18 fullShare X18 ∗ owns (c : Thread nD τ) arg19 fullShare X19 ∗ owns (c : Thread nD τ) arg20 fullShare X20 ∗ owns (c : Thread nD τ) arg21 fullShare X21 ∗ owns (c : Thread nD τ) arg22 fullShare (if k0_cond37 i = 1#1 then outSt B (step i B σ) else X22))) := by
  unfold held
  iintro ⟨⟨H23, H24, H25, H26, H27⟩, G2, G3, G4, G5, G6, G7, G8, G9, G10, G11, G12, G13, G14, G15, G16, G17, G18, G19, G20, G21, G22⟩
  ihave ⟨%f2, %e2, H2⟩ := owns_open arg2 harg2 _ $$ G2
  ihave ⟨%f3, %e3, H3⟩ := owns_open arg3 harg3 _ $$ G3
  ihave ⟨%f4, %e4, H4⟩ := owns_open arg4 harg4 _ $$ G4
  ihave ⟨%f5, %e5, H5⟩ := owns_open arg5 harg5 _ $$ G5
  ihave ⟨%f6, %e6, H6⟩ := owns_open arg6 harg6 _ $$ G6
  ihave ⟨%f7, %e7, H7⟩ := owns_open arg7 harg7 _ $$ G7
  ihave ⟨%f8, %e8, H8⟩ := owns_open arg8 harg8 _ $$ G8
  ihave ⟨%f9, %e9, H9⟩ := owns_open arg9 harg9 _ $$ G9
  ihave ⟨%f10, %e10, H10⟩ := owns_open arg10 harg10 _ $$ G10
  ihave ⟨%f11, %e11, H11⟩ := owns_open arg11 harg11 _ $$ G11
  ihave ⟨%f12, %e12, H12⟩ := owns_open arg12 harg12 _ $$ G12
  ihave ⟨%f13, %e13, H13⟩ := owns_open arg13 harg13 _ $$ G13
  ihave ⟨%f14, %e14, H14⟩ := owns_open arg14 harg14 _ $$ G14
  ihave ⟨%f15, %e15, H15⟩ := owns_open arg15 harg15 _ $$ G15
  ihave ⟨%f16, %e16, H16⟩ := owns_open arg16 harg16 _ $$ G16
  ihave ⟨%f17, %e17, H17⟩ := owns_open arg17 harg17 _ $$ G17
  ihave ⟨%f18, %e18, H18⟩ := owns_open arg18 harg18 _ $$ G18
  ihave ⟨%f19, %e19, H19⟩ := owns_open arg19 harg19 _ $$ G19
  ihave ⟨%f20, %e20, H20⟩ := owns_open arg20 harg20 _ $$ G20
  ihave ⟨%f21, %e21, H21⟩ := owns_open arg21 harg21 _ $$ G21
  ihave ⟨%f22, %e22, H22⟩ := owns_open arg22 harg22 _ $$ G22
  iapply point_spec c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 M0 (Memref.isWhole_whole _) M1 (Memref.isWhole_whole _) M2 (Memref.isWhole_whole _) M3 (Memref.isWhole_whole _) M4 (Memref.isWhole_whole _) f2 f3 f4 f5 f6 f7 f8 f9 f10 f11 f12 f13 f14 f15 f16 f17 f18 f19 f20 f21 f22 σ.seg σ.tm σ.ps σ.mn σ.mx B (by rw [hB, e2, e3, e4, e5, e6, e7, e8, e9, e10, e11, e12, e13, e14, e15, e16, e17, e18, e19, e20, e21])
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  iintro H2 H3 H4 H5 H6 H7 H8 H9 H10 H11 H12 H13 H14 H15 H16 H17 H18 H19 H20 H21 H22 H23 H24 H25 H26 H27
  isplitl [H23 H24 H25 H26 H27]
  · isplitl [H23]; · iexact H23
    isplitl [H24]; · iexact H24
    isplitl [H25]; · iexact H25
    isplitl [H26]; · iexact H26
    iexact H27
  isplitl [H2]; · iapply owns_close arg2 harg2 X2 f2 e2 $$ H2
  isplitl [H3]; · iapply owns_close arg3 harg3 X3 f3 e3 $$ H3
  isplitl [H4]; · iapply owns_close arg4 harg4 X4 f4 e4 $$ H4
  isplitl [H5]; · iapply owns_close arg5 harg5 X5 f5 e5 $$ H5
  isplitl [H6]; · iapply owns_close arg6 harg6 X6 f6 e6 $$ H6
  isplitl [H7]; · iapply owns_close arg7 harg7 X7 f7 e7 $$ H7
  isplitl [H8]; · iapply owns_close arg8 harg8 X8 f8 e8 $$ H8
  isplitl [H9]; · iapply owns_close arg9 harg9 X9 f9 e9 $$ H9
  isplitl [H10]; · iapply owns_close arg10 harg10 X10 f10 e10 $$ H10
  isplitl [H11]; · iapply owns_close arg11 harg11 X11 f11 e11 $$ H11
  isplitl [H12]; · iapply owns_close arg12 harg12 X12 f12 e12 $$ H12
  isplitl [H13]; · iapply owns_close arg13 harg13 X13 f13 e13 $$ H13
  isplitl [H14]; · iapply owns_close arg14 harg14 X14 f14 e14 $$ H14
  isplitl [H15]; · iapply owns_close arg15 harg15 X15 f15 e15 $$ H15
  isplitl [H16]; · iapply owns_close arg16 harg16 X16 f16 e16 $$ H16
  isplitl [H17]; · iapply owns_close arg17 harg17 X17 f17 e17 $$ H17
  isplitl [H18]; · iapply owns_close arg18 harg18 X18 f18 e18 $$ H18
  isplitl [H19]; · iapply owns_close arg19 harg19 X19 f19 e19 $$ H19
  isplitl [H20]; · iapply owns_close arg20 harg20 X20 f20 e20 $$ H20
  isplitl [H21]; · iapply owns_close arg21 harg21 X21 f21 e21 $$ H21
  iapply owns_close arg22 harg22 _ _ _ $$ H22
  rw [read_fin, e22]; rfl
end
end Cert.KernelIdeal.Hand
-- ==== Proof.Run.lean ====
module
public import proofs.«01_k».proof.Proof.Gen.KernelIdeal.Frame
public import proofs.«01_k».proof.Proof.Owned
@[expose] public section
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (m : (ℓ : Loc nD τ sig) → Buf (Elt F) ℓ) (ρ : Dev nD → PrngReg)

/-! ## The scratch buffers from point to point -/

theorem put_eq {M : Memref sig .tc .vmem S32x16 .f32} (h : ∀ j, ∃ y, M.view.emb y = j) {c : Dev nD}
    (w : Vec F S32x16 .f32) (f f' : Buf (Elt F) (M.view.loc (c : Thread nD τ))) :
    M.view.writes (Elt F) f [⟨Rect.unit (s := S32x16) ![0, 0] S32x16.size inb_S32x16_S32x16_0_0, w⟩] =
      M.view.writes (Elt F) f' [⟨Rect.unit (s := S32x16) ![0, 0] S32x16.size inb_S32x16_S32x16_0_0, w⟩] := by
  refine View.contents_ext (v := M.view) (fun y => ?_) fun j hj => absurd (h j) (by rintro ⟨y, hy⟩; exact hj y hy)
  rw [read_put M.view z2, read_put M.view z2]

variable {c : Dev nD}

theorem clr_eq {M : Memref sig .tc .vmem S32x16 .f32} (h : ∀ j, ∃ y, M.view.emb y = j) (a0 a1 : BitVec 32)
    (hc : Scalar.cmpi .ne (Scalar.extui (Scalar.andi (Scalar.cmpi .eq a0 0#32) (Scalar.cmpi .eq a1 0#32)) : BitVec 32) 0#32 = 1#1)
    (f f' : Buf (Elt F) (M.view.loc (c : Thread nD τ))) : clr M a0 a1 f = clr M a0 a1 f' := by
  unfold clr; rw [dif_pos hc, dif_pos hc]; exact put_eq h _ f f'

theorem ini_eq {M : Memref sig .tc .vmem S32x16 .f32} (h : ∀ j, ∃ y, M.view.emb y = j) (a0 a1 : BitVec 32) (w : Vec F S32x16 .f32)
    (hc : Scalar.cmpi .ne (Scalar.extui (Scalar.andi (Scalar.cmpi .eq a0 1#32) (Scalar.cmpi .eq a1 0#32)) : BitVec 32) 0#32 = 1#1)
    (f f' : Buf (Elt F) (M.view.loc (c : Thread nD τ))) : ini M a0 a1 w f = ini M a0 a1 w f' := by
  unfold ini; rw [dif_pos hc, dif_pos hc]; exact put_eq h w f f'

/-- What the input blocks hold at a point. -/
def blkAt (c : Dev nD) (t : Fin cfg0.N) : Blk F :=
  blk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)

/-- The scratch buffers after the first `n` points, begun at some contents or other. -/
def ref (c : Dev nD) : ℕ → St F c
  | 0 => ⟨fun _ => FloatOps.ofBits .f32 0#32, fun _ => FloatOps.ofBits .f32 0#32, fun _ => FloatOps.ofBits .f32 0#32, fun _ => FloatOps.ofBits .f32 0#32, fun _ => FloatOps.ofBits .f32 0#32⟩
  | n + 1 => if h : n < cfg0.N then step (grid0.coords ⟨n, h⟩) (blkAt m c ⟨n, h⟩) (ref c n) else ref c n

theorem ref_succ (t : Fin cfg0.N) : ref m c (t.val + 1) = step (grid0.coords t) (blkAt m c t) (ref m c t.val) := by
  rw [ref, dif_pos t.isLt]

/-- How far the buffers' contents are determined before point `n`: the segment sums from the first point on, the rest from the
    second phase's first point on. -/
def agrees (n : ℕ) (σ : St F c) : Prop := (1 ≤ n → σ.seg = (ref m c n).seg) ∧ (9 ≤ n → σ = ref m c n)

theorem step_congr (i : grid0.Coords) (B : Blk F) (σ σ' : St F c) (h0 : n23 i B M0 σ.seg = n23 i B M0 σ'.seg)
    (hc : Scalar.cmpi .ne (Scalar.extui (Scalar.andi (Scalar.cmpi .eq (ca0 i) 1#32) (Scalar.cmpi .eq (ca1 i) 0#32)) : BitVec 32) 0#32 = 1#1) :
    step i B σ = step i B σ' := by
  have e1 : n24 i B M1 (rd M0 (n23 i B M0 σ.seg)) σ.tm = n24 i B M1 (rd M0 (n23 i B M0 σ'.seg)) σ'.tm := by
    rw [h0]; exact ini_eq (M := M1) (fun j => ⟨j, rfl⟩) _ _ _ hc _ _
  have key : ∀ (s s' : Buf (Elt F) (M0.view.loc (c : Thread nD τ))) (t t' : Buf (Elt F) (M1.view.loc (c : Thread nD τ))) (p p' : Buf (Elt F) (M2.view.loc (c : Thread nD τ)))
      (q q' : Buf (Elt F) (M3.view.loc (c : Thread nD τ))) (r r' : Buf (Elt F) (M4.view.loc (c : Thread nD τ))), s = s' → t = t' → p = p' → q = q' → r = r' →
      (⟨s, t, p, q, r⟩ : St F c) = ⟨s', t', p', q', r'⟩ := by
    rintro s _ t _ p _ q _ r _ rfl rfl rfl rfl rfl; rfl
  unfold step
  refine key _ _ _ _ _ _ _ _ _ _ h0 e1 ?_ ?_ ?_
  · rw [e1]; unfold n25; rw [ini_eq (M := M2) (fun j => ⟨j, rfl⟩) _ _ (k0_pay3 (F := F)) hc σ.ps σ'.ps]
  · rw [e1]; unfold n26; rw [ini_eq (M := M3) (fun j => ⟨j, rfl⟩) _ _ (k0_pay4 (F := F)) hc σ.mn σ'.mn]
  · rw [e1]; unfold n27; rw [ini_eq (M := M4) (fun j => ⟨j, rfl⟩) _ _ (k0_pay5 (F := F)) hc σ.mx σ'.mx]

theorem at0 : ∀ t : Fin cfg0.N, t.val = 0 → Scalar.cmpi .ne (Scalar.extui (Scalar.andi (Scalar.cmpi .eq (ca0 (grid0.coords t)) 0#32) (Scalar.cmpi .eq (ca1 (grid0.coords t)) 0#32)) : BitVec 32) 0#32 = 1#1 := by
  decide
theorem at8 : ∀ t : Fin cfg0.N, t.val = 8 → Scalar.cmpi .ne (Scalar.extui (Scalar.andi (Scalar.cmpi .eq (ca0 (grid0.coords t)) 1#32) (Scalar.cmpi .eq (ca1 (grid0.coords t)) 0#32)) : BitVec 32) 0#32 = 1#1 := by
  decide

theorem agrees_step (t : Fin cfg0.N) (σ : St F c) (h : agrees m t.val σ) : agrees m (t.val + 1) (step (grid0.coords t) (blkAt m c t) σ) := by
  have h0 : n23 (grid0.coords t) (blkAt m c t) M0 σ.seg = n23 (grid0.coords t) (blkAt m c t) M0 (ref m c t.val).seg := by
    by_cases ht : t.val = 0
    · unfold n23; rw [clr_eq (M := M0) (fun j => ⟨j, rfl⟩) _ _ (at0 t ht) σ.seg (ref m c t.val).seg]
    · rw [h.1 (by omega)]
  refine ⟨fun _ => ?_, fun h9 => ?_⟩
  · rw [ref_succ]; exact h0
  · rw [ref_succ]
    by_cases ht : t.val = 8
    · exact step_congr _ _ _ _ h0 (at8 t ht)
    · rw [h.2 (by omega)]

/-! ## The launch's proof data -/

/-- What the body keeps of its own buffers before point `n`. -/
def Inv (c : Dev nD) (n : ℕ) : sProp 𝕄 := iprop((∃ σ : St F c, ⌜agrees m n σ⌝ ∗ held c σ) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => outSt (blkAt m c t) (ref m c (t.val + 1))
    | ⟨n + 21, h⟩ => absurd h (Nat.not_lt.mpr (Nat.le_add_left 21 n))
  Φ n := Inv m c n.val
  q _ := fullShare
  owed _ := 0

theorem A_eq (c : Dev nD) (w : Fin cfg0.W) : (dats m 0 c).A w = V m c (Pipeline.arrRef spec0 w) := by
  dsimp only [dats]
theorem bef0 (c : Dev nD) (t : Fin cfg0.N) (d) : (dats m 0 c).before 0 t d = iblk m c 0 t :=
  before0_0_of m (dats m 0 c) (A_eq m c 0) (fun t => by dsimp only [dats]) t d
theorem bef1 (c : Dev nD) (t : Fin cfg0.N) (d) : (dats m 0 c).before 1 t d = iblk m c 1 t :=
  before0_1_of m (dats m 0 c) (A_eq m c 1) (fun t => by dsimp only [dats]) t d
theorem bef2 (c : Dev nD) (t : Fin cfg0.N) (d) : (dats m 0 c).before 2 t d = iblk m c 2 t :=
  before0_2_of m (dats m 0 c) (A_eq m c 2) (fun t => by dsimp only [dats]) t d
theorem bef3 (c : Dev nD) (t : Fin cfg0.N) (d) : (dats m 0 c).before 3 t d = iblk m c 3 t :=
  before0_3_of m (dats m 0 c) (A_eq m c 3) (fun t => by dsimp only [dats]) t d
theorem bef4 (c : Dev nD) (t : Fin cfg0.N) (d) : (dats m 0 c).before 4 t d = iblk m c 4 t :=
  before0_4_of m (dats m 0 c) (A_eq m c 4) (fun t => by dsimp only [dats]) t d
theorem bef5 (c : Dev nD) (t : Fin cfg0.N) (d) : (dats m 0 c).before 5 t d = iblk m c 5 t :=
  before0_5_of m (dats m 0 c) (A_eq m c 5) (fun t => by dsimp only [dats]) t d
theorem bef6 (c : Dev nD) (t : Fin cfg0.N) (d) : (dats m 0 c).before 6 t d = iblk m c 6 t :=
  before0_6_of m (dats m 0 c) (A_eq m c 6) (fun t => by dsimp only [dats]) t d
theorem bef7 (c : Dev nD) (t : Fin cfg0.N) (d) : (dats m 0 c).before 7 t d = iblk m c 7 t :=
  before0_7_of m (dats m 0 c) (A_eq m c 7) (fun t => by dsimp only [dats]) t d
theorem bef8 (c : Dev nD) (t : Fin cfg0.N) (d) : (dats m 0 c).before 8 t d = iblk m c 8 t :=
  before0_8_of m (dats m 0 c) (A_eq m c 8) (fun t => by dsimp only [dats]) t d
theorem bef9 (c : Dev nD) (t : Fin cfg0.N) (d) : (dats m 0 c).before 9 t d = iblk m c 9 t :=
  before0_9_of m (dats m 0 c) (A_eq m c 9) (fun t => by dsimp only [dats]) t d
theorem bef10 (c : Dev nD) (t : Fin cfg0.N) (d) : (dats m 0 c).before 10 t d = iblk m c 10 t :=
  before0_10_of m (dats m 0 c) (A_eq m c 10) (fun t => by dsimp only [dats]) t d
theorem bef11 (c : Dev nD) (t : Fin cfg0.N) (d) : (dats m 0 c).before 11 t d = iblk m c 11 t :=
  before0_11_of m (dats m 0 c) (A_eq m c 11) (fun t => by dsimp only [dats]) t d
theorem bef12 (c : Dev nD) (t : Fin cfg0.N) (d) : (dats m 0 c).before 12 t d = iblk m c 12 t :=
  before0_12_of m (dats m 0 c) (A_eq m c 12) (fun t => by dsimp only [dats]) t d
theorem bef13 (c : Dev nD) (t : Fin cfg0.N) (d) : (dats m 0 c).before 13 t d = iblk m c 13 t :=
  before0_13_of m (dats m 0 c) (A_eq m c 13) (fun t => by dsimp only [dats]) t d
theorem bef14 (c : Dev nD) (t : Fin cfg0.N) (d) : (dats m 0 c).before 14 t d = iblk m c 14 t :=
  before0_14_of m (dats m 0 c) (A_eq m c 14) (fun t => by dsimp only [dats]) t d
theorem bef15 (c : Dev nD) (t : Fin cfg0.N) (d) : (dats m 0 c).before 15 t d = iblk m c 15 t :=
  before0_15_of m (dats m 0 c) (A_eq m c 15) (fun t => by dsimp only [dats]) t d
theorem bef16 (c : Dev nD) (t : Fin cfg0.N) (d) : (dats m 0 c).before 16 t d = iblk m c 16 t :=
  before0_16_of m (dats m 0 c) (A_eq m c 16) (fun t => by dsimp only [dats]) t d
theorem bef17 (c : Dev nD) (t : Fin cfg0.N) (d) : (dats m 0 c).before 17 t d = iblk m c 17 t :=
  before0_17_of m (dats m 0 c) (A_eq m c 17) (fun t => by dsimp only [dats]) t d
theorem bef18 (c : Dev nD) (t : Fin cfg0.N) (d) : (dats m 0 c).before 18 t d = iblk m c 18 t :=
  before0_18_of m (dats m 0 c) (A_eq m c 18) (fun t => by dsimp only [dats]) t d
theorem bef19 (c : Dev nD) (t : Fin cfg0.N) (d) : (dats m 0 c).before 19 t d = iblk m c 19 t :=
  before0_19_of m (dats m 0 c) (A_eq m c 19) (fun t => by dsimp only [dats]) t d

theorem idle20 : ∀ t : Fin cfg0.N, t.val ≠ 15 → cfg0.idle 20 (cfg0.grid.coords t) = true := by decide
theorem live20 : ∀ t : Fin cfg0.N, t.val = 15 → cfg0.idle 20 (cfg0.grid.coords t) = false := by decide
theorem cond20 : ∀ t : Fin cfg0.N, t.val ≠ 15 → k0_cond37 (grid0.coords t) ≠ 1#1 := by decide
theorem cond20' : ∀ t : Fin cfg0.N, t.val = 15 → k0_cond37 (grid0.coords t) = 1#1 := by decide

theorem leaves20 (c : Dev nD) (t : Fin cfg0.N) (d) (σ : St F c) (h : agrees m (t.val + 1) σ) :
    owns (c : Thread nD τ) (st0_20 t) fullShare (if k0_cond37 (grid0.coords t) = 1#1 then outSt (blkAt m c t) σ else (dats m 0 c).before 20 t d) ⊢
      (dats m 0 c).leaves 20 t := by
  by_cases ht : t.val = 15
  · rw [if_pos (cond20' t ht), h.2 (by omega)]
    unfold Dat.leaves
    rw [live20 t ht]
    exact .rfl
  · rw [if_neg (cond20 t ht), Dat.leaves_idle _ _ _ (idle20 t ht) (by
      cases hf : (cfg0.win 20).flush t
      · rfl
      · exact absurd ((flush0_20 t).mp hf) (by have := t.isLt; have : t.val < 16 := this; omega))]
    iintro H; iexists d; iexact H

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)) ∗ (∃ d, owns (c : Thread nD τ) (st0_13 t) fullShare ((dats m 0 c).before 13 t d)) ∗ (∃ d, owns (c : Thread nD τ) (st0_14 t) fullShare ((dats m 0 c).before 14 t d)) ∗ (∃ d, owns (c : Thread nD τ) (st0_15 t) fullShare ((dats m 0 c).before 15 t d)) ∗ (∃ d, owns (c : Thread nD τ) (st0_16 t) fullShare ((dats m 0 c).before 16 t d)) ∗ (∃ d, owns (c : Thread nD τ) (st0_17 t) fullShare ((dats m 0 c).before 17 t d)) ∗ (∃ d, owns (c : Thread nD τ) (st0_18 t) fullShare ((dats m 0 c).before 18 t d)) ∗ (∃ d, owns (c : Thread nD τ) (st0_19 t) fullShare ((dats m 0 c).before 19 t d)) ∗ (∃ d, owns (c : Thread nD τ) (st0_20 t) fullShare ((dats m 0 c).before 20 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ owns (c : Thread nD τ) (st0_12 t) fullShare ((dats m 0 c).after 12 t) ∗ owns (c : Thread nD τ) (st0_13 t) fullShare ((dats m 0 c).after 13 t) ∗ owns (c : Thread nD τ) (st0_14 t) fullShare ((dats m 0 c).after 14 t) ∗ owns (c : Thread nD τ) (st0_15 t) fullShare ((dats m 0 c).after 15 t) ∗ owns (c : Thread nD τ) (st0_16 t) fullShare ((dats m 0 c).after 16 t) ∗ owns (c : Thread nD τ) (st0_17 t) fullShare ((dats m 0 c).after 17 t) ∗ owns (c : Thread nD τ) (st0_18 t) fullShare ((dats m 0 c).after 18 t) ∗ owns (c : Thread nD τ) (st0_19 t) fullShare ((dats m 0 c).after 19 t) ∗ (dats m 0 c).leaves 20 t)

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Inv m c (t.val + 1) from rfl, show (dats m 0 c).Φ t.castSucc = Inv m c t.val from rfl]
  unfold Inv Dat.owesAt Pipeline.owesWithin
  rw [show (dats m 0 c).owed t.castSucc = 0 from rfl, show (dats m 0 c).owed t.succ = 0 from rfl]
  iintro ⟨⟨⟨%σ, %hσ, HS⟩, HR⟩, ⟨%W, -, HW⟩, ⟨%d0, G0⟩, ⟨%d1, G1⟩, ⟨%d2, G2⟩, ⟨%d3, G3⟩, ⟨%d4, G4⟩, ⟨%d5, G5⟩, ⟨%d6, G6⟩, ⟨%d7, G7⟩, ⟨%d8, G8⟩, ⟨%d9, G9⟩, ⟨%d10, G10⟩, ⟨%d11, G11⟩, ⟨%d12, G12⟩, ⟨%d13, G13⟩, ⟨%d14, G14⟩, ⟨%d15, G15⟩, ⟨%d16, G16⟩, ⟨%d17, G17⟩, ⟨%d18, G18⟩, ⟨%d19, G19⟩, ⟨%d20, G20⟩⟩
  rw [bef0, bef1, bef2, bef3, bef4, bef5, bef6, bef7, bef8, bef9, bef10, bef11, bef12, bef13, bef14, bef15, bef16, bef17, bef18, bef19]
  iapply (wp_wand_r frame _ Set.univ)
  isplitl [HS G0 G1 G2 G3 G4 G5 G6 G7 G8 G9 G10 G11 G12 G13 G14 G15 G16 G17 G18 G19 G20]
  · iapply point_owns c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16)) (st0_17 t) (hstage0_17 ((cfg0.slots t 17).cast nbuf0_17)) (st0_18 t) (hstage0_18 ((cfg0.slots t 18).cast nbuf0_18)) (st0_19 t) (hstage0_19 ((cfg0.slots t 19).cast nbuf0_19)) (st0_20 t) (hstage0_20 ((cfg0.slots t 20).cast nbuf0_20)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) _ (blkAt m c t) rfl σ
    isplitl [HS]; · iexact HS
    isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    isplitl [G12]; · iexact G12
    isplitl [G13]; · iexact G13
    isplitl [G14]; · iexact G14
    isplitl [G15]; · iexact G15
    isplitl [G16]; · iexact G16
    isplitl [G17]; · iexact G17
    isplitl [G18]; · iexact G18
    isplitl [G19]; · iexact G19
    iexact G20
  · iintro %x ⟨HS, G0, G1, G2, G3, G4, G5, G6, G7, G8, G9, G10, G11, G12, G13, G14, G15, G16, G17, G18, G19, G20⟩
    isplitl [HS HR]
    · isplitr [HR]
      · iexists _; isplitr
        · ipureintro; exact agrees_step m t σ hσ
        · iexact HS
      · iexact HR
    isplitl [HW]
    · iexists W; isplitr
      · ipureintro; exact fun _ _ => Or.inl trivial
      · iexact HW
    isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    isplitl [G12]; · iexact G12
    isplitl [G13]; · iexact G13
    isplitl [G14]; · iexact G14
    isplitl [G15]; · iexact G15
    isplitl [G16]; · iexact G16
    isplitl [G17]; · iexact G17
    isplitl [G18]; · iexact G18
    isplitl [G19]; · iexact G19
    iapply leaves20 m c t d20 _ (agrees_step m t σ hσ) $$ G20

theorem defs₀_row (t : Fin cfg0.N) : defs₀ (F := F) .tc cfg0.body (cfg0.bodyArgs t (cfg0.slots t)) = bodyAt0 t := by
  unfold defs₀; rw [Defs.onTc_tc]

theorem body_obligation (c : Dev nD) : Pipeline.BodyObligationLoose (dats (F := F) m 0 c) (defs₀ (F := F)) Variants.none () Set.univ := fun t => by
  rw [bigSep_W0, bigSep_W0, defs₀_row]
  exact triple_restated (sound_body m c t) rfl .rfl fun _ => .rfl

theorem inv_in (c : Dev nD) : Pipeline.ΦA spec0 c ⊢ (Inv (F := F) m c 0) := by
  unfold Pipeline.ΦA Inv held
  rw [scopedRest0_eq]
  iintro ⟨⟨⟨%f0, H0⟩, ⟨%f1, H1⟩, ⟨%f2, H2⟩, ⟨%f3, H3⟩, ⟨%f4, H4⟩⟩, HR⟩
  isplitr [HR]
  · iexists (⟨f0, f1, f2, f3, f4⟩ : St F c)
    isplitr
    · ipureintro; exact ⟨fun h => absurd h (by decide), fun h => absurd h (by decide)⟩
    isplitl [H0]; · iexact H0
    isplitl [H1]; · iexact H1
    isplitl [H2]; · iexact H2
    isplitl [H3]; · iexact H3
    iexact H4
  · iexact HR

theorem inv_out (c : Dev nD) (n : ℕ) : Inv (F := F) m c n ⊢ Pipeline.ΦA spec0 c := by
  unfold Pipeline.ΦA Inv held
  rw [scopedRest0_eq]
  iintro ⟨⟨%σ, -, H0, H1, H2, H3, H4⟩, HR⟩
  isplitr [HR]
  · isplitl [H0]; · iexists _; iexact H0
    isplitl [H1]; · iexists _; iexact H1
    isplitl [H2]; · iexists _; iexact H2
    isplitl [H3]; · iexists _; iexact H3
    iexists _; iexact H4
  · iexact HR

set_option backward.isDefEq.respectTransparency.types false in
/-- The program runs to its end with the arrays as the proof data says and the counters at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := fun r => Pipeline.FramePost cfgs (dats m) 0 (V m) r ∧ r.2.sem = fun _ => 0) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m)
    (hin := fun c => inv_in m c) (hout := fun c => inv_out m c _)

/-- The arguments end as they began. -/
theorem kept (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).1 8).trans (((dats m 0 c).arrAt_in 8 rfl _).trans ((A_eq m c 8).trans (V_main_arg3 m c))),
    ((h c).2 main_arg4 (Pipeline.mem_restRefs_of main_arg4 (by decide) (by decide))).trans (V_main_arg4 m c),
    ((h c).1 10).trans (((dats m 0 c).arrAt_in 10 rfl _).trans ((A_eq m c 10).trans (V_main_arg5 m c))),
    ((h c).2 main_arg6 (Pipeline.mem_restRefs_of main_arg6 (by decide) (by decide))).trans (V_main_arg6 m c),
    ((h c).1 12).trans (((dats m 0 c).arrAt_in 12 rfl _).trans ((A_eq m c 12).trans (V_main_arg7 m c))),
    ((h c).2 main_arg8 (Pipeline.mem_restRefs_of main_arg8 (by decide) (by decide))).trans (V_main_arg8 m c),
    ((h c).1 14).trans (((dats m 0 c).arrAt_in 14 rfl _).trans ((A_eq m c 14).trans (V_main_arg9 m c))),
    ((h c).2 main_arg10 (Pipeline.mem_restRefs_of main_arg10 (by decide) (by decide))).trans (V_main_arg10 m c),
    ((h c).1 16).trans (((dats m 0 c).arrAt_in 16 rfl _).trans ((A_eq m c 16).trans (V_main_arg11 m c))),
    ((h c).2 main_arg12 (Pipeline.mem_restRefs_of main_arg12 (by decide) (by decide))).trans (V_main_arg12 m c),
    ((h c).1 18).trans (((dats m 0 c).arrAt_in 18 rfl _).trans ((A_eq m c 18).trans (V_main_arg13 m c))),
    ((h c).2 main_arg14 (Pipeline.mem_restRefs_of main_arg14 (by decide) (by decide))).trans (V_main_arg14 m c),
    ((h c).1 0).trans (((dats m 0 c).arrAt_in 0 rfl _).trans ((A_eq m c 0).trans (V_main_arg15 m c)))⟩

/-- Every run ends, the arguments unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  (θ_run defs _ _).mono (fun r h => ⟨fun c => kept m r h.1 c, h.2⟩) (run_main m ρ)

end Cert.KernelIdeal.Hand
-- ==== Proof.Net.lean ====
module
public import Idealize.ShloMosaic.Lib.Pointwise
@[expose] public section
noncomputable section
/-! # The network, as mathematics over the extended reals

A point cloud of 32768 points is cut into 16 consecutive segments. Each point goes through a layer, is joined with its segment's mean
of that layer and goes through two more; each segment's mean, minimum and maximum of the result go through three dense layers. -/
namespace Cert.Net
open Idealize.ShloMosaic

/-- The network's inputs: the normalized points, the weights, and of the segments their boundaries, divisors and non-emptiness. -/
structure Net where
  x : Fin 32768 → Fin 4 → EReal
  w0 : Fin 4 → Fin 32 → EReal
  b0 : Fin 32 → EReal
  w1a : Fin 32 → Fin 32 → EReal
  w1b : Fin 32 → Fin 32 → EReal
  b1 : Fin 32 → EReal
  w2 : Fin 32 → Fin 32 → EReal
  b2 : Fin 32 → EReal
  w4 : Fin 96 → Fin 128 → EReal
  b4 : Fin 128 → EReal
  w5 : Fin 128 → Fin 128 → EReal
  b5 : Fin 128 → EReal
  wo : Fin 128 → Fin 5 → EReal
  bo : Fin 5 → EReal
  C : Fin 17 → ℕ
  Q : Fin 16 → EReal
  E : Fin 16 → BitVec 1

namespace Net
variable (A : Net)

/-- Whether point `n` lies in segment `s`. -/
def ins (s : Fin 16) (n : ℕ) : Prop := A.C s.castSucc ≤ n ∧ n < A.C s.succ
instance (s : Fin 16) (n : ℕ) : Decidable (A.ins s n) := inferInstanceAs (Decidable (_ ∧ _))

/-- The first layer. -/
def lay (n : Fin 32768) (f : Fin 32) : EReal := max (∑ k, A.x n k * A.w0 k f + A.b0 f) 0
/-- A segment's sum. -/
def tot (g : Fin 32768 → Fin 32 → EReal) (s : Fin 16) (f : Fin 32) : EReal := ∑ n : Fin 32768, if A.ins s n.val then g n f else 0
/-- A segment's share of the second layer. -/
def tm (s : Fin 16) (f : Fin 32) : EReal := ∑ g, Ideal.div (A.tot A.lay s g) (A.Q s) * A.w1b g f + A.b1 f
/-- The second layer. -/
def hid (n : Fin 32768) (f : Fin 32) : EReal :=
  max (∑ g, A.lay n g * A.w1a g f + ∑ s, if A.ins s n.val then A.tm s f else 0) 0
/-- The third layer. -/
def top (n : Fin 32768) (f : Fin 32) : EReal := max (∑ g, A.hid n g * A.w2 g f + A.b2 f) 0
/-- A segment's minimum and maximum. -/
def lo (s : Fin 16) (f : Fin 32) : EReal := Finset.univ.inf fun n : Fin 32768 => if A.ins s n.val then A.top n f else ⊤
def hi (s : Fin 16) (f : Fin 32) : EReal := Finset.univ.sup fun n : Fin 32768 => if A.ins s n.val then A.top n f else ⊥
/-- What is known of a segment. -/
def pool (s : Fin 16) (k : Fin 96) : EReal :=
  if h : k.val < 32 then Ideal.div (A.tot A.top s ⟨k.val, h⟩) (A.Q s)
  else if h' : k.val - 32 < 32 then Scalar.select (A.E s) (A.lo s ⟨k.val - 32, h'⟩) 0
  else Scalar.select (A.E s) (A.hi s ⟨k.val - 32 - 32, by omega⟩) 0
/-- The three dense layers. -/
def d1 (s : Fin 16) (k : Fin 128) : EReal := max (∑ j, A.pool s j * A.w4 j k + A.b4 k) 0
def d2 (s : Fin 16) (k : Fin 128) : EReal := max (∑ j, A.d1 s j * A.w5 j k + A.b5 k) 0
def out (s : Fin 16) (k : Fin 5) : EReal := ∑ j, A.d2 s j * A.wo j k + A.bo k

/-! ## Cutting the points into blocks of 4096, each in two halves -/

/-- Point `j` of half `h` of block `p`. -/
def nd (p : Fin 8) (h : Fin 2) (j : Fin 2048) : Fin 32768 := ⟨p.val * 4096 + h.val * 2048 + j.val, by omega⟩

theorem nd_onto (n : Fin 32768) : ∃ p h j, nd p h j = n :=
  ⟨⟨n.val / 4096, by omega⟩, ⟨n.val % 4096 / 2048, by omega⟩, ⟨n.val % 2048, by omega⟩, Fin.ext (by unfold nd; simp only; omega)⟩

/-- A block's part of a segment's sum, minimum and maximum. -/
def psum (g : Fin 32768 → Fin 32 → EReal) (s : Fin 16) (f : Fin 32) (p : Fin 8) : EReal :=
  (∑ j, if A.ins s (nd p 0 j).val then g (nd p 0 j) f else 0) + ∑ j, if A.ins s (nd p 1 j).val then g (nd p 1 j) f else 0
def hlo (s : Fin 16) (f : Fin 32) (p : Fin 8) (h : Fin 2) : EReal := Finset.univ.inf fun j => if A.ins s (nd p h j).val then A.top (nd p h j) f else ⊤
def hhi (s : Fin 16) (f : Fin 32) (p : Fin 8) (h : Fin 2) : EReal := Finset.univ.sup fun j => if A.ins s (nd p h j).val then A.top (nd p h j) f else ⊥

/-- What the first `k` blocks contribute. -/
def sumTo (g : Fin 32768 → Fin 32 → EReal) (s : Fin 16) (f : Fin 32) : ℕ → EReal
  | 0 => 0
  | k + 1 => sumTo g s f k + if h : k < 8 then A.psum g s f ⟨k, h⟩ else 0
def loTo (s : Fin 16) (f : Fin 32) : ℕ → EReal
  | 0 => ⊤
  | k + 1 => if h : k < 8 then min (min (loTo s f k) (A.hlo s f ⟨k, h⟩ 0)) (A.hlo s f ⟨k, h⟩ 1) else loTo s f k
def hiTo (s : Fin 16) (f : Fin 32) : ℕ → EReal
  | 0 => ⊥
  | k + 1 => if h : k < 8 then max (max (hiTo s f k) (A.hhi s f ⟨k, h⟩ 0)) (A.hhi s f ⟨k, h⟩ 1) else hiTo s f k

/-- A sum over the points, by blocks and halves. -/
theorem sum_nd (F : Fin 32768 → EReal) : ∑ n, F n = ∑ p : Fin 8, ((∑ j, F (nd p 0 j)) + ∑ j, F (nd p 1 j)) := by
  let e : Fin 8 × Fin 2 × Fin 2048 ≃ Fin 32768 := Equiv.ofBijective (fun x => nd x.1 x.2.1 x.2.2) ⟨by
    rintro ⟨p, h, j⟩ ⟨p', h', j'⟩ e
    have e' := congrArg Fin.val e
    simp only [nd] at e'
    have : p = p' := Fin.ext (by omega)
    have : h = h' := Fin.ext (by omega)
    have : j = j' := Fin.ext (by omega)
    subst_vars; rfl, fun n => by obtain ⟨p, h, j, e⟩ := nd_onto n; exact ⟨(p, h, j), e⟩⟩
  rw [← e.sum_comp, Fintype.sum_prod_type]
  refine Finset.sum_congr rfl fun p _ => ?_
  rw [Fintype.sum_prod_type, Fin.sum_univ_two]
  rfl

theorem sumTo_eq (g : Fin 32768 → Fin 32 → EReal) (s : Fin 16) (f : Fin 32) : A.sumTo g s f 8 = A.tot g s f := by
  unfold tot
  rw [sum_nd, Fin.sum_univ_eight]
  simp only [sumTo, psum, Nat.reduceLT, ↓reduceDIte, zero_add, Nat.reduceAdd]
  rfl

theorem le_loTo (s : Fin 16) (f : Fin 32) (z : EReal) (k : ℕ) (hk : k ≤ 8) :
    z ≤ A.loTo s f k ↔ ∀ p : Fin 8, p.val < k → ∀ h j, z ≤ if A.ins s (nd p h j).val then A.top (nd p h j) f else ⊤ := by
  induction k with
  | zero => exact ⟨fun _ p h => absurd h (Nat.not_lt_zero _), fun _ => le_top⟩
  | succ k ih =>
    have hk' : k < 8 := hk
    unfold loTo
    rw [dif_pos hk', le_min_iff, le_min_iff, ih (by omega)]
    unfold hlo
    rw [Finset.le_inf_iff, Finset.le_inf_iff]
    constructor
    · rintro ⟨⟨h0, h1⟩, h2⟩ p hp h j
      by_cases e : p.val < k
      · exact h0 p e h j
      · obtain rfl : p = ⟨k, hk'⟩ := Fin.ext (by simp only; omega)
        match h with
        | 0 => exact h1 j (Finset.mem_univ j)
        | 1 => exact h2 j (Finset.mem_univ j)
    · intro H
      exact ⟨⟨fun p hp => H p (by omega), fun j _ => H ⟨k, hk'⟩ (Nat.lt_succ_self k) 0 j⟩, fun j _ => H ⟨k, hk'⟩ (Nat.lt_succ_self k) 1 j⟩

theorem loTo_eq (s : Fin 16) (f : Fin 32) : A.loTo s f 8 = A.lo s f := by
  refine eq_of_forall_le_iff fun z => ?_
  rw [le_loTo A s f z 8 (Nat.le_refl _)]
  unfold lo
  rw [Finset.le_inf_iff]
  constructor
  · intro H n _
    obtain ⟨p, h, j, rfl⟩ := nd_onto n
    exact H p p.isLt h j
  · exact fun H p _ h j => H _ (Finset.mem_univ _)

theorem hiTo_le (s : Fin 16) (f : Fin 32) (z : EReal) (k : ℕ) (hk : k ≤ 8) :
    A.hiTo s f k ≤ z ↔ ∀ p : Fin 8, p.val < k → ∀ h j, (if A.ins s (nd p h j).val then A.top (nd p h j) f else ⊥) ≤ z := by
  induction k with
  | zero => exact ⟨fun _ p h => absurd h (Nat.not_lt_zero _), fun _ => bot_le⟩
  | succ k ih =>
    have hk' : k < 8 := hk
    unfold hiTo
    rw [dif_pos hk', max_le_iff, max_le_iff, ih (by omega)]
    unfold hhi
    rw [Finset.sup_le_iff, Finset.sup_le_iff]
    constructor
    · rintro ⟨⟨h0, h1⟩, h2⟩ p hp h j
      by_cases e : p.val < k
      · exact h0 p e h j
      · obtain rfl : p = ⟨k, hk'⟩ := Fin.ext (by simp only; omega)
        match h with
        | 0 => exact h1 j (Finset.mem_univ j)
        | 1 => exact h2 j (Finset.mem_univ j)
    · intro H
      exact ⟨⟨fun p hp => H p (by omega), fun j _ => H ⟨k, hk'⟩ (Nat.lt_succ_self k) 0 j⟩, fun j _ => H ⟨k, hk'⟩ (Nat.lt_succ_self k) 1 j⟩

theorem hiTo_eq (s : Fin 16) (f : Fin 32) : A.hiTo s f 8 = A.hi s f := by
  refine eq_of_forall_ge_iff fun z => ?_
  rw [hiTo_le A s f z 8 (Nat.le_refl _)]
  unfold hi
  rw [Finset.sup_le_iff]
  constructor
  · intro H n _
    obtain ⟨p, h, j, rfl⟩ := nd_onto n
    exact H p p.isLt h j
  · exact fun H p _ h j => H _ (Finset.mem_univ _)

end Net
end Cert.Net
-- ==== Proof.Pay.lean ====
module
public import proofs.«01_k».proof.Proof.Owned
public import proofs.«01_k».proof.Proof.Net
public import Idealize.ShloMosaic.Lib.Pointwise
public import Idealize.ShloMosaic.Lib.StableHlo.Predicate
@[expose] public section
set_option maxRecDepth 16384
noncomputable section
/-! # What the body computes at a point, over the extended reals -/
namespace Cert.KernelIdeal.Hand
open Cert.KernelIdeal Cert.KernelIdeal.Gen Cert.Net
open Idealize.ShloMosaic Idealize.ShloMosaic.TcCoe

/-! ## Words and constants -/

theorem inf_top : Ideal.ofBits .f32 0x7F800000#32 = ⊤ := by
  simp [Ideal.ofBits, Ideal.ieee]
theorem ninf_bot : Ideal.ofBits .f32 0xFF800000#32 = ⊥ := by
  simp [Ideal.ofBits, Ideal.ieee]
theorem ofBool_ite (p : Prop) [Decidable p] : BitVec.ofBool (decide p) = if p then 1#1 else 0#1 := by
  split <;> simp [*]
theorem sge_nat (a b : ℕ) (ha : a < 2^31) (hb : b < 2^31) : IntOp.cmpi .sge (BitVec.ofNat 32 a) (BitVec.ofNat 32 b) = if b ≤ a then 1#1 else 0#1 := by
  rw [← ofBool_ite]
  simp only [IntOp.cmpi, BitVec.sle, StableHlo.Predicate.toInt_ofNat_small _ ha, StableHlo.Predicate.toInt_ofNat_small _ hb, Nat.cast_le]
theorem slt_nat (a b : ℕ) (ha : a < 2^31) (hb : b < 2^31) : IntOp.cmpi .slt (BitVec.ofNat 32 a) (BitVec.ofNat 32 b) = if a < b then 1#1 else 0#1 := by
  rw [← ofBool_ite]
  simp only [IntOp.cmpi, BitVec.slt, StableHlo.Predicate.toInt_ofNat_small _ ha, StableHlo.Predicate.toInt_ofNat_small _ hb, Nat.cast_lt]
theorem sgt_nat (a b : ℕ) (ha : a < 2^31) (hb : b < 2^31) : IntOp.cmpi .sgt (BitVec.ofNat 32 a) (BitVec.ofNat 32 b) = if b < a then 1#1 else 0#1 :=
  slt_nat b a hb ha
theorem andi_ite (p q : Prop) [Decidable p] [Decidable q] : IntOp.andi (if p then 1#1 else 0#1) (if q then 1#1 else 0#1) = if p ∧ q then 1#1 else 0#1 := by
  by_cases hp : p <;> by_cases hq : q <;> simp [hp, hq, IntOp.andi]
theorem num_ite (p : Prop) [Decidable p] : FloatOps.sitofp (F := Ideal) FTy.f32 (BitVec.setWidth 32 (if p then 1#1 else 0#1)) = if p then (1 : EReal) else 0 := by
  split <;> simp [FloatOps.sitofp]
theorem sel_ite (p : Prop) [Decidable p] (x y : EReal) : Scalar.select (if p then 1#1 else 0#1) x y = if p then x else y := by
  by_cases hp : p <;> simp [hp, Scalar.select]
theorem mul_ite_one (p : Prop) [Decidable p] (x : EReal) : x * (if p then 1 else 0) = if p then x else 0 := by
  split <;> simp

/-! ## The blocks against the network -/

/-- The blocks a point reads hold the network's inputs, the points being block `p`'s. -/
structure Reads (A : Net) (p : Fin 8) (i : grid0.Coords) (B : Blk Ideal) : Prop where
  at_ : (i 1).val = p.val
  le : ∀ k, A.C k ≤ 32768
  cu : ∀ k, B.cu k = BitVec.ofNat 32 (A.C k)
  sc : ∀ s, B.sc (ix2 s 0) = BitVec.ofNat 32 (A.C s.castSucc)
  ec : ∀ s, B.ec (ix2 s 0) = BitVec.ofNat 32 (A.C s.succ)
  Q : ∀ s, FloatOps.sitofp (F := Ideal) FTy.f32 (IntOp.maxsi (IntOp.subi (B.er (ix2 0 s)) (B.sr (ix2 0 s))) 1#32) = A.Q s
  E : ∀ s, IntOp.cmpi .sgt (IntOp.subi (B.er (ix2 0 s)) (B.sr (ix2 0 s))) 0#32 = A.E s
  xa : ∀ k j, (B.xa (ix2 k j) - B.mean (ix2 k 0)) * B.inv (ix2 k 0) = A.x (Net.nd p 0 j) k
  xb : ∀ k j, (B.xb (ix2 k j) - B.mean (ix2 k 0)) * B.inv (ix2 k 0) = A.x (Net.nd p 1 j) k
  w0 : ∀ a b, B.w0 (ix2 a b) = A.w0 a b
  b0 : ∀ a, B.b0 (ix2 a 0) = A.b0 a
  w1a : ∀ a b, B.w1a (ix2 a b) = A.w1a a b
  w1b : ∀ a b, B.w1b (ix2 a b) = A.w1b a b
  b1 : ∀ a, B.b1 (ix2 a 0) = A.b1 a
  w2 : ∀ a b, B.w2 (ix2 a b) = A.w2 a b
  b2 : ∀ a, B.b2 (ix2 a 0) = A.b2 a
  w4 : ∀ a b, B.w4 (ix2 a b) = A.w4 a b
  b4 : ∀ a, B.b4 (ix2 0 a) = A.b4 a
  w5 : ∀ a b, B.w5 (ix2 a b) = A.w5 a b
  b5 : ∀ a, B.b5 (ix2 0 a) = A.b5 a
  wo : ∀ a b, B.wo (ix2 a b) = A.wo a b
  bo : ∀ a, B.bo (ix2 0 a) = A.bo a

variable {A : Net} {p : Fin 8} {i : grid0.Coords} {B : Blk Ideal} (R : Reads A p i B)
include R

theorem wordA (j : Fin 2048) : IntOp.addi (IntOp.addi (BitVec.ofNat 32 j.val) (Scalar.muli (BitVec.ofNat 32 (i 1).val) 4096#32)) 0#32 = BitVec.ofNat 32 (Net.nd p 0 j).val := by
  simp only [IntOp.addi, Scalar.muli, IntOp.muli, ← BitVec.ofNat_add, ← BitVec.ofNat_mul, R.at_, Net.nd]
  congr 1; simp; omega
theorem wordB (j : Fin 2048) : IntOp.addi (IntOp.addi (BitVec.ofNat 32 j.val) (Scalar.muli (BitVec.ofNat 32 (i 1).val) 4096#32)) 2048#32 = BitVec.ofNat 32 (Net.nd p 1 j).val := by
  simp only [IntOp.addi, Scalar.muli, IntOp.muli, ← BitVec.ofNat_add, ← BitVec.ofNat_mul, R.at_, Net.nd]
  congr 1; simp; omega

theorem in_word (s : Fin 16) (n : Fin 32768) :
    IntOp.andi (IntOp.cmpi .sge (BitVec.ofNat 32 n.val) (B.sc (ix2 s 0))) (IntOp.cmpi .slt (BitVec.ofNat 32 n.val) (B.ec (ix2 s 0))) = if A.ins s n.val then 1#1 else 0#1 := by
  have h0 := R.le s.castSucc
  have h1 := R.le s.succ
  have h2 := n.isLt
  rw [R.sc, R.ec, sge_nat _ _ (by omega) (by omega), slt_nat _ _ (by omega) (by omega), andi_ite]
  rfl

theorem mkA_at (s : Fin 16) (j : Fin 2048) : mkA i B (ix2 s j) = if A.ins s (Net.nd p 0 j).val then 1#1 else 0#1 := by
  rw [← in_word R, ← wordA R]
  unfold mkA
  pointwise [k0_pay107]
theorem mkB_at (s : Fin 16) (j : Fin 2048) : mkB i B (ix2 s j) = if A.ins s (Net.nd p 1 j).val then 1#1 else 0#1 := by
  rw [← in_word R, ← wordB R]
  unfold mkB
  pointwise [k0_pay111, k0_pay110]
theorem ohA_at (s : Fin 16) (j : Fin 2048) : ohA i B (ix2 s j) = if A.ins s (Net.nd p 0 j).val then (1 : EReal) else 0 := by
  rw [← num_ite, ← mkA_at R]
  unfold ohA mkA
  pointwise [k0_pay108]
theorem ohB_at (s : Fin 16) (j : Fin 2048) : ohB i B (ix2 s j) = if A.ins s (Net.nd p 1 j).val then (1 : EReal) else 0 := by
  rw [← num_ite, ← mkB_at R]
  unfold ohB mkB
  pointwise [k0_pay112]

theorem lyA_at (f : Fin 32) (j : Fin 2048) : lyA B (ix2 f j) = A.lay (Net.nd p 0 j) f := by
  unfold lyA
  pointwise [k0_pay109]
  unfold Net.lay
  rw [R.b0]
  refine congrArg (fun x => max (x + _) _) (Finset.sum_congr rfl fun k _ => ?_)
  rw [R.xa, R.w0, mul_comm]
theorem lyB_at (f : Fin 32) (j : Fin 2048) : lyB B (ix2 f j) = A.lay (Net.nd p 1 j) f := by
  unfold lyB
  pointwise [k0_pay113]
  unfold Net.lay
  rw [R.b0]
  refine congrArg (fun x => max (x + _) _) (Finset.sum_congr rfl fun k _ => ?_)
  rw [R.xb, R.w0, mul_comm]

theorem pay1_at (v : Vec Ideal S32x16 .f32) (f : Fin 32) (s : Fin 16) :
    k0_pay1 (ohA i B) (lyA B) (ohB i B) (lyB B) v (ix2 f s) = v (ix2 f s) + A.psum A.lay s f p := by
  pointwise [k0_pay1]
  simp only [ohA_at R, ohB_at R, lyA_at R, lyB_at R, mul_ite_one]
  rw [add_assoc]; rfl

theorem pay2_at (g : Vec Ideal S32x16 .f32) (hg : ∀ f s, g (ix2 f s) = A.tot A.lay s f) (f : Fin 32) (s : Fin 16) :
    k0_pay2 B.er B.sr g B.w1b B.b1 (ix2 f s) = A.tm s f := by
  pointwise [k0_pay2]
  unfold Net.tm
  rw [R.b1, R.Q]
  refine congrArg (fun x => x + _) (Finset.sum_congr rfl fun k _ => ?_)
  rw [hg, R.w1b, mul_comm]

theorem hdA_at (g : Vec Ideal S32x16 .f32) (hg : ∀ f s, g (ix2 f s) = A.tm s f) (f : Fin 32) (j : Fin 2048) :
    hdA i B g (ix2 f j) = A.top (Net.nd p 0 j) f := by
  unfold hdA
  pointwise [k0_pay13]
  unfold Net.top Net.hid
  rw [R.b2]
  refine congrArg (fun x => max (x + _) _) (Finset.sum_congr rfl fun k _ => ?_)
  rw [R.w2, mul_comm]
  refine congrArg (fun x => x * _) (congrArg₂ (fun x y => max (x + y) _) (Finset.sum_congr rfl fun k' _ => ?_) (Finset.sum_congr rfl fun s _ => ?_))
  · rw [R.w1a, lyA_at R, mul_comm]
  · rw [hg, ohA_at R, mul_ite_one]
theorem hdB_at (g : Vec Ideal S32x16 .f32) (hg : ∀ f s, g (ix2 f s) = A.tm s f) (f : Fin 32) (j : Fin 2048) :
    hdB i B g (ix2 f j) = A.top (Net.nd p 1 j) f := by
  unfold hdB
  pointwise [k0_pay14]
  unfold Net.top Net.hid
  rw [R.b2]
  refine congrArg (fun x => max (x + _) _) (Finset.sum_congr rfl fun k _ => ?_)
  rw [R.w2, mul_comm]
  refine congrArg (fun x => x * _) (congrArg₂ (fun x y => max (x + y) _) (Finset.sum_congr rfl fun k' _ => ?_) (Finset.sum_congr rfl fun s _ => ?_))
  · rw [R.w1a, lyB_at R, mul_comm]
  · rw [hg, ohB_at R, mul_ite_one]

theorem pay15_at (g : Vec Ideal S32x16 .f32) (hg : ∀ f s, g (ix2 f s) = A.tm s f) (v : Vec Ideal S32x16 .f32) (f : Fin 32) (s : Fin 16) :
    k0_pay15 (ohA i B) (ohB i B) (hdA i B g) (hdB i B g) v (constant S32x16 .f32 0x00000000#32) (ix2 f s) = v (ix2 f s) + A.psum A.top s f p := by
  pointwise [k0_pay15]
  simp only [ohA_at R, ohB_at R, hdA_at R g hg, hdB_at R g hg, mul_ite_one]
  rw [add_assoc]; rfl

/-! ## The running minima and maxima -/

omit R in
theorem fold_min_inf {n : ℕ} (g : Fin n → EReal) : Finset.fold min ⊤ g Finset.univ = Finset.univ.inf g := rfl
omit R in
theorem fold_max_sup {n : ℕ} (g : Fin n → EReal) : Finset.fold max ⊥ g Finset.univ = Finset.univ.sup g := rfl

omit R in
theorem colMin_at (s : Fin 16) (mask : IVec S16x2048 1) (h : FVec Ideal S32x2048 .f32) (v : Vec Ideal S32x1 .f32) (f : Fin 32) :
    colMin s mask h v (ix2 f 0) = min (v (ix2 f 0)) (Finset.univ.inf fun j : Fin 2048 => Scalar.select (mask (ix2 s j)) (h (ix2 f j)) ⊤) := by
  unfold colMin rowSel
  pointwise []
  rw [inf_top, fold_min_inf]
omit R in
theorem colMax_at (s : Fin 16) (mask : IVec S16x2048 1) (h : FVec Ideal S32x2048 .f32) (v : Vec Ideal S32x1 .f32) (f : Fin 32) :
    colMax s mask h v (ix2 f 0) = max (v (ix2 f 0)) (Finset.univ.sup fun j : Fin 2048 => Scalar.select (mask (ix2 s j)) (h (ix2 f j)) ⊥) := by
  unfold colMax rowSel
  pointwise []
  rw [ninf_bot, fold_max_sup]

theorem minA_at (g : Vec Ideal S32x16 .f32) (hg : ∀ f s, g (ix2 f s) = A.tm s f) (s : Fin 16) (v : Vec Ideal S32x1 .f32) (f : Fin 32) :
    colMin s (mkA i B) (hdA i B g) v (ix2 f 0) = min (v (ix2 f 0)) (A.hlo s f p 0) := by
  rw [colMin_at]
  simp only [mkA_at R, hdA_at R g hg, sel_ite]; rfl
theorem minB_at (g : Vec Ideal S32x16 .f32) (hg : ∀ f s, g (ix2 f s) = A.tm s f) (s : Fin 16) (v : Vec Ideal S32x1 .f32) (f : Fin 32) :
    colMin s (mkB i B) (hdB i B g) v (ix2 f 0) = min (v (ix2 f 0)) (A.hlo s f p 1) := by
  rw [colMin_at]
  simp only [mkB_at R, hdB_at R g hg, sel_ite]; rfl
theorem maxA_at (g : Vec Ideal S32x16 .f32) (hg : ∀ f s, g (ix2 f s) = A.tm s f) (s : Fin 16) (v : Vec Ideal S32x1 .f32) (f : Fin 32) :
    colMax s (mkA i B) (hdA i B g) v (ix2 f 0) = max (v (ix2 f 0)) (A.hhi s f p 0) := by
  rw [colMax_at]
  simp only [mkA_at R, hdA_at R g hg, sel_ite]; rfl
theorem maxB_at (g : Vec Ideal S32x16 .f32) (hg : ∀ f s, g (ix2 f s) = A.tm s f) (s : Fin 16) (v : Vec Ideal S32x1 .f32) (f : Fin 32) :
    colMax s (mkB i B) (hdB i B g) v (ix2 f 0) = max (v (ix2 f 0)) (A.hhi s f p 1) := by
  rw [colMax_at]
  simp only [mkB_at R, hdB_at R g hg, sel_ite]; rfl

/-- The first point of a half block. -/
def half (p : Fin 8) (h : Fin 2) : ℕ := p.val * 4096 + h.val * 2048

/-- A half block's guard for a segment that has no point in the half block. -/
theorem guard_off (h : Fin 2) (base : BitVec 32) (hb : base = BitVec.ofNat 32 (half p h)) (s : Fin 16) (hg : guardOf B.cu base s ≠ 1#1) (j : Fin 2048) :
    ¬ A.ins s (Net.nd p h j).val := by
  intro hin
  apply hg
  have h0 := R.le s.castSucc
  have h1 := R.le s.succ
  have h2 : half p h < 32768 := by unfold half; omega
  have hn : (Net.nd p h j).val = half p h + j.val := by simp only [Net.nd, half]
  rw [hn] at hin
  unfold Net.ins at hin
  unfold guardOf meets
  rw [R.cu, R.cu, hb]
  have e : Scalar.addi (BitVec.ofNat 32 (half p h)) 2048#32 = BitVec.ofNat 32 (half p h + 2048) := by
    simp only [Scalar.addi, IntOp.addi, ← BitVec.ofNat_add]
  have e1 : Scalar.cmpi .sgt (BitVec.ofNat 32 (A.C s.succ)) (BitVec.ofNat 32 (half p h)) = 1#1 :=
    (sgt_nat _ _ (by omega) (by omega)).trans (if_pos (by omega))
  have e2 : Scalar.cmpi .slt (BitVec.ofNat 32 (A.C s.castSucc)) (BitVec.ofNat 32 (half p h + 2048)) = 1#1 :=
    (slt_nat _ _ (by omega) (by omega)).trans (if_pos (by omega))
  rw [e, e1, e2]
  decide

theorem hlo_off (h : Fin 2) (base : BitVec 32) (hb : base = BitVec.ofNat 32 (half p h)) (s : Fin 16) (f : Fin 32) (hg : guardOf B.cu base s ≠ 1#1) :
    A.hlo s f p h = ⊤ := by
  unfold Net.hlo
  simp only [guard_off R h base hb s hg, if_false]
  exact Finset.inf_top _
theorem hhi_off (h : Fin 2) (base : BitVec 32) (hb : base = BitVec.ofNat 32 (half p h)) (s : Fin 16) (f : Fin 32) (hg : guardOf B.cu base s ≠ 1#1) :
    A.hhi s f p h = ⊥ := by
  unfold Net.hhi
  simp only [guard_off R h base hb s hg, if_false]
  exact Finset.sup_bot _

theorem baseA : Scalar.addi (Scalar.muli (ca1 i) 4096#32) 0#32 = BitVec.ofNat 32 (half p 0) := by
  simp only [ca1, Scalar.addi, IntOp.addi, Scalar.muli, IntOp.muli, ← BitVec.ofNat_add, ← BitVec.ofNat_mul, R.at_, half]
  congr 1
theorem baseB : Scalar.addi (Scalar.muli (ca1 i) 4096#32) 2048#32 = BitVec.ofNat 32 (half p 1) := by
  simp only [ca1, Scalar.addi, IntOp.addi, Scalar.muli, IntOp.muli, ← BitVec.ofNat_add, ← BitVec.ofNat_mul, R.at_, half]
  congr 1

/-! ## The head -/

theorem out_at (P L H : Vec Ideal S32x16 .f32) (hP : ∀ f s, P (ix2 f s) = A.tot A.top s f) (hL : ∀ f s, L (ix2 f s) = A.lo s f) (hH : ∀ f s, H (ix2 f s) = A.hi s f)
    (s : Fin 16) (k : Fin 5) : outv B P L H (ix2 s k) = A.out s k := by
  unfold outv
  pointwise [k0_pay12, k0_pay106]
  unfold Net.out Net.d2 Net.d1
  rw [R.bo]
  refine congrArg (fun x => x + _) (Finset.sum_congr rfl fun a _ => ?_)
  rw [R.wo, R.b5]
  refine congrArg (fun x => max (x + _) _ * _) (Finset.sum_congr rfl fun b _ => ?_)
  rw [R.w5, R.b4]
  refine congrArg (fun x => max (x + _) _ * _) (Finset.sum_congr rfl fun d _ => ?_)
  rw [R.w4, R.Q, R.E]
  refine congrArg (fun x => x * _) ?_
  unfold Net.pool
  simp only [hP, hL, hH]

end Cert.KernelIdeal.Hand
-- ==== Proof.Chain.lean ====
module
public import proofs.«01_k».proof.Proof.Run
public import proofs.«01_k».proof.Proof.Pay
public import Idealize.ShloMosaic.Lib.VecWindow
@[expose] public section
set_option maxRecDepth 16384
noncomputable section
/-! # What the scratch buffers hold after each point -/
namespace Cert.KernelIdeal.Hand
open Cert.KernelIdeal Cert.KernelIdeal.Gen Cert.Net
open Idealize.ShloMosaic Idealize.ShloMosaic.TcCoe

section Columns
variable {c : Dev nD} (M : Memref sig .tc .vmem S32x16 .f32)

theorem rd_eq (f : Buf (Elt Ideal) (M.view.loc (c : Thread nD τ))) : rd M f = M.view.read (Elt Ideal) f :=
  View.readAt_full M.view f _

theorem rd_put (f : Buf (Elt Ideal) (M.view.loc (c : Thread nD τ))) (w : Vec Ideal S32x16 .f32) :
    rd (c := c) M (M.view.writes (Elt Ideal) f [⟨Rect.unit (s := S32x16) ![0, 0] S32x16.size inb_S32x16_S32x16_0_0, w⟩]) = w := by
  rw [rd_eq]; exact read_put M.view z2 _ f w

theorem rd_col (f : Buf (Elt Ideal) (M.view.loc (c : Thread nD τ))) (a : Fin 32) (s : Fin 16) :
    M.view.readAt (Elt Ideal) (colR s).toLoadRect f (ix2 a 0) = rd M f (ix2 a s) := by
  rw [rd_eq]
  exact congrArg (M.view.read (Elt Ideal) f) ((colR s).emb_eq_of_coords (ix2 a 0) (ix2 a s) fun b => match b with
    | 0 => by show a.val = 0 + 1 * a.val; omega
    | 1 => by show s.val = s.val + 1 * 0; omega)

variable (pay : Fin 16 → Vec Ideal S32x1 .f32 → FVec Ideal S32x1 .f32) (g : Fin 16 → BitVec 1) (op : EReal → EReal → EReal) (d : Fin 16 → Fin 32 → EReal)
  (hp : ∀ s v a, pay s v (ix2 a 0) = op (v (ix2 a 0)) (d s a)) (ho : ∀ s a x, g s ≠ 1#1 → op x (d s a) = x)
include hp ho

theorem rd_upd (f : Buf (Elt Ideal) (M.view.loc (c : Thread nD τ))) (u s : Fin 16) (a : Fin 32) :
    rd M (upd M pay g f u) (ix2 a s) = if s = u then op (rd M f (ix2 a s)) (d s a) else rd M f (ix2 a s) := by
  unfold upd
  by_cases hg : g u = 1#1
  · rw [dif_pos hg]
    by_cases hs : s = u
    · subst hs
      rw [if_pos rfl, rd_eq, ← rd_col M f a s, ← hp]
      exact View.read_writes_cons_hit_of_coords M.view f (colR s) _ [] (ix2 a 0) (ix2 a s) fun b => match b with
        | 0 => by show a.val = 0 + 1 * a.val; omega
        | 1 => by show s.val = s.val + 1 * 0; omega
    · rw [if_neg hs, rd_eq, rd_eq]
      refine (View.read_writes_cons_miss_of_axis M.view f ⟨colR u, _⟩ [] (ix2 a s) (1 : Fin 2) u.val 1 rfl rfl rfl ?_).trans rfl
      have : s.val ≠ u.val := fun h => hs (Fin.ext h)
      show s.val < u.val ∨ u.val + 1 ≤ s.val
      omega
  · rw [dif_neg hg]
    by_cases hs : s = u
    · subst hs; rw [if_pos rfl, ho s a _ hg]
    · rw [if_neg hs]

theorem rd_fold (l : List (Fin 16)) (hl : l.Nodup) (f : Buf (Elt Ideal) (M.view.loc (c : Thread nD τ))) (s : Fin 16) (a : Fin 32) :
    rd M (l.foldl (upd M pay g) f) (ix2 a s) = if s ∈ l then op (rd M f (ix2 a s)) (d s a) else rd M f (ix2 a s) := by
  induction l generalizing f with
  | nil => simp
  | cons u l ih =>
    rw [List.nodup_cons] at hl
    rw [List.foldl_cons, ih hl.2, rd_upd M pay g op d hp ho]
    by_cases hs : s = u
    · subst hs; simp [hl.1]
    · simp [hs]

theorem rd_segs (f : Buf (Elt Ideal) (M.view.loc (c : Thread nD τ))) (s : Fin 16) (a : Fin 32) :
    rd M (segs.foldl (upd M pay g) f) (ix2 a s) = op (rd M f (ix2 a s)) (d s a) := by
  rw [rd_fold M pay g op d hp ho segs (by decide)]
  exact if_pos (by revert s; decide)
end Columns

/-! ## The guards of the phases -/

theorem g_clr : ∀ t : Fin cfg0.N, (Scalar.cmpi .ne (Scalar.extui (Scalar.andi (Scalar.cmpi .eq (ca0 (grid0.coords t)) 0#32) (Scalar.cmpi .eq (ca1 (grid0.coords t)) 0#32)) : BitVec 32) 0#32 = 1#1) ↔ t.val = 0 := by
  decide
theorem g_ini : ∀ t : Fin cfg0.N, (Scalar.cmpi .ne (Scalar.extui (Scalar.andi (Scalar.cmpi .eq (ca0 (grid0.coords t)) 1#32) (Scalar.cmpi .eq (ca1 (grid0.coords t)) 0#32)) : BitVec 32) 0#32 = 1#1) ↔ t.val = 8 := by
  decide
theorem g_acc : ∀ t : Fin cfg0.N, (Scalar.cmpi .ne (Scalar.extui (Scalar.cmpi .eq (ca0 (grid0.coords t)) 0#32) : BitVec 32) 0#32 = 1#1) ↔ t.val < 8 := by
  decide
theorem g_snd : ∀ t : Fin cfg0.N, (Scalar.cmpi .ne (Scalar.extui (Scalar.cmpi .eq (ca0 (grid0.coords t)) 1#32) : BitVec 32) 0#32 = 1#1) ↔ 8 ≤ t.val := by
  decide

theorem pay114_at (y : S32x16.Idx) : k0_pay114 (F := Ideal) y = 0 := by
  obtain ⟨a, s, rfl⟩ : ∃ a s, y = ix2 a s := ⟨y 0, y 1, eq_ix2 y⟩
  pointwise [k0_pay114]
theorem pay3_at (y : S32x16.Idx) : k0_pay3 (F := Ideal) y = 0 := by
  obtain ⟨a, s, rfl⟩ : ∃ a s, y = ix2 a s := ⟨y 0, y 1, eq_ix2 y⟩
  pointwise [k0_pay3]
theorem pay4_at (y : S32x16.Idx) : k0_pay4 (F := Ideal) y = ⊤ := by
  obtain ⟨a, s, rfl⟩ : ∃ a s, y = ix2 a s := ⟨y 0, y 1, eq_ix2 y⟩
  pointwise [k0_pay4]
  exact inf_top
theorem pay5_at (y : S32x16.Idx) : k0_pay5 (F := Ideal) y = ⊥ := by
  obtain ⟨a, s, rfl⟩ : ∃ a s, y = ix2 a s := ⟨y 0, y 1, eq_ix2 y⟩
  pointwise [k0_pay5]
  exact ninf_bot

theorem N_eq : cfg0.N = 16 := rfl

/-- The block a point works on. -/
def blkNo (t : Fin cfg0.N) : Fin 8 := ⟨t.val % 8, Nat.mod_lt _ (by decide)⟩

section Chain
variable (m : (b : Loc nD τ sig) → Buf (Elt Ideal) b) (c : Dev nD)
variable {A : Net} (R : ∀ t : Fin cfg0.N, Reads A (blkNo t) (grid0.coords t) (blkAt m c t))
include R

theorem seg_step (t : Fin cfg0.N) (ht : t.val < 8) (h : 0 < t.val → ∀ f s, rd M0 (ref m c t.val).seg (ix2 f s) = A.sumTo A.lay s f t.val) (f : Fin 32) (s : Fin 16) :
    rd M0 (ref m c (t.val + 1)).seg (ix2 f s) = A.sumTo A.lay s f (t.val + 1) := by
  rw [ref_succ]
  show rd M0 (n23 (grid0.coords t) (blkAt m c t) M0 (ref m c t.val).seg) _ = _
  have e : rd M0 (clr M0 (ca0 (grid0.coords t)) (ca1 (grid0.coords t)) (ref m c t.val).seg) (ix2 f s) = A.sumTo A.lay s f t.val := by
    unfold clr
    by_cases h0 : t.val = 0
    · rw [dif_pos ((g_clr t).2 h0), rd_put, pay114_at, h0]; rfl
    · rw [dif_neg (mt (g_clr t).1 h0)]; exact h (Nat.pos_of_ne_zero h0) f s
  unfold n23 acc
  rw [dif_pos ((g_acc t).2 ht), rd_put]
  refine (pay1_at (R t) _ f s).trans ?_
  have hb : blkNo t = ⟨t.val, ht⟩ := Fin.ext (Nat.mod_eq_of_lt ht)
  rw [Net.sumTo, dif_pos ht, hb]
  exact congrArg (fun x => x + _) e

theorem seg_to (n : ℕ) (hn : n ≤ 8) (h1 : 1 ≤ n) : ∀ f s, rd M0 (ref m c n).seg (ix2 f s) = A.sumTo A.lay s f n := by
  induction n with
  | zero => omega
  | succ n ih =>
    have hN : n < cfg0.N := by rw [N_eq]; omega
    exact seg_step m c R ⟨n, hN⟩ hn (fun h0 => ih (by omega) h0)

theorem seg_tot (n : ℕ) (h8 : 8 ≤ n) (hn : n ≤ 16) : ∀ f s, rd M0 (ref m c n).seg (ix2 f s) = A.tot A.lay s f := by
  induction n, h8 using Nat.le_induction with
  | base => intro f s; rw [seg_to m c R 8 (by omega) (by omega), Net.sumTo_eq]
  | succ n h8 ih =>
    intro f s
    have hN : n < cfg0.N := by rw [N_eq]; omega
    rw [← ih (by omega) f s, show n + 1 = (⟨n, hN⟩ : Fin cfg0.N).val + 1 from rfl, ref_succ]
    show rd M0 (n23 (grid0.coords ⟨n, hN⟩) (blkAt m c ⟨n, hN⟩) M0 (ref m c n).seg) _ = _
    unfold n23 acc clr
    rw [dif_neg (mt (g_acc ⟨n, hN⟩).1 (by simp only; omega)), dif_neg (mt (g_clr ⟨n, hN⟩).1 (by simp only; omega))]

theorem tm_at (n : ℕ) (h8 : 8 ≤ n) (hn : n < 16) : ∀ f s, rd M1 (ref m c (n + 1)).tm (ix2 f s) = A.tm s f := by
  induction n, h8 using Nat.le_induction with
  | base =>
    intro f s
    have hN : 8 < cfg0.N := by rw [N_eq]; omega
    have hs := seg_tot m c R 9 (by omega) (by omega)
    rw [show 9 = (⟨8, hN⟩ : Fin cfg0.N).val + 1 from rfl, ref_succ] at hs
    rw [show 8 + 1 = (⟨8, hN⟩ : Fin cfg0.N).val + 1 from rfl, ref_succ]
    show rd M1 (n24 (grid0.coords ⟨8, hN⟩) (blkAt m c ⟨8, hN⟩) M1 (rd M0 (n23 (grid0.coords ⟨8, hN⟩) (blkAt m c ⟨8, hN⟩) M0 (ref m c 8).seg)) (ref m c 8).tm) _ = _
    unfold n24 ini
    rw [dif_pos ((g_ini ⟨8, hN⟩).2 rfl), rd_put]
    exact pay2_at (R ⟨8, hN⟩) _ hs f s
  | succ n h8 ih =>
    intro f s
    have hN : n + 1 < cfg0.N := by rw [N_eq]; omega
    rw [← ih (by omega) f s, show n + 1 + 1 = (⟨n + 1, hN⟩ : Fin cfg0.N).val + 1 from rfl, ref_succ]
    show rd M1 (n24 (grid0.coords ⟨n + 1, hN⟩) (blkAt m c ⟨n + 1, hN⟩) M1 _ (ref m c (n + 1)).tm) _ = _
    unfold n24 ini
    rw [dif_neg (mt (g_ini ⟨n + 1, hN⟩).1 (by simp only; omega))]

/-- The block of a point of the second phase. -/
theorem blk_snd (k : ℕ) (hk : k < 8) (hN : 8 + k < cfg0.N) : blkNo ⟨8 + k, hN⟩ = ⟨k, hk⟩ :=
  Fin.ext (by unfold blkNo; simp only; omega)

omit R in
theorem ini_at (k : ℕ) (hN : 8 + k < cfg0.N) (M : Memref sig .tc .vmem S32x16 .f32) (w : Vec Ideal S32x16 .f32) (f : Buf (Elt Ideal) (M.view.loc (c : Thread nD τ)))
    (y : S32x16.Idx) (v : EReal) (h0 : k = 0 → w y = v) (h1 : 0 < k → rd M f y = v) :
    rd M (ini M (ca0 (grid0.coords ⟨8 + k, hN⟩)) (ca1 (grid0.coords ⟨8 + k, hN⟩)) w f) y = v := by
  unfold ini
  by_cases hk : k = 0
  · rw [dif_pos ((g_ini ⟨8 + k, hN⟩).2 (by simp only; omega)), rd_put]; exact h0 hk
  · rw [dif_neg (mt (g_ini ⟨8 + k, hN⟩).1 (by simp only; omega))]; exact h1 (Nat.pos_of_ne_zero hk)

omit R in
theorem snd_at {α : Type} (k : ℕ) (hN : 8 + k < cfg0.N) (x y : α) : snd (ca0 (grid0.coords ⟨8 + k, hN⟩)) x y = x := by
  unfold snd
  rw [dif_pos ((g_snd ⟨8 + k, hN⟩).2 (by simp only; omega))]

theorem ps_to (k : ℕ) (hk : k < 8) : ∀ f s, rd M2 (ref m c (8 + k + 1)).ps (ix2 f s) = A.sumTo A.top s f (k + 1) := by
  induction k with
  | zero =>
    intro f s
    have hN : 8 + 0 < cfg0.N := by rw [N_eq]; omega
    have ht := tm_at m c R (8 + 0) (by omega) (by omega)
    rw [show 8 + 0 + 1 = (⟨8 + 0, hN⟩ : Fin cfg0.N).val + 1 from rfl, ref_succ] at ht ⊢
    have e := ini_at c 0 hN M2 (k0_pay3 (F := Ideal)) (ref m c (8 + 0)).ps (ix2 f s) (A.sumTo A.top s f 0) (fun _ => pay3_at _) (fun h => absurd h (by omega))
    show rd M2 (n25 (grid0.coords ⟨8 + 0, hN⟩) (blkAt m c ⟨8 + 0, hN⟩) M2 (rd M1 (step (grid0.coords ⟨8 + 0, hN⟩) (blkAt m c ⟨8 + 0, hN⟩) (ref m c (8 + 0))).tm) (ref m c (8 + 0)).ps) _ = _
    unfold n25
    rw [snd_at, rd_put]
    refine (pay15_at (R ⟨8 + 0, hN⟩) _ ht _ f s).trans ?_
    rw [Net.sumTo, dif_pos hk, blk_snd m c R 0 hk hN]
    exact congrArg (fun x => x + _) e
  | succ k ih =>
    intro f s
    have hN : 8 + (k + 1) < cfg0.N := by rw [N_eq]; omega
    have ht := tm_at m c R (8 + (k + 1)) (by omega) (by omega)
    rw [show 8 + (k + 1) + 1 = (⟨8 + (k + 1), hN⟩ : Fin cfg0.N).val + 1 from rfl, ref_succ] at ht ⊢
    have e := ini_at c (k + 1) hN M2 (k0_pay3 (F := Ideal)) (ref m c (8 + (k + 1))).ps (ix2 f s) (A.sumTo A.top s f (k + 1)) (fun h => absurd h (by omega)) (fun _ => ih (by omega) f s)
    show rd M2 (n25 (grid0.coords ⟨8 + (k + 1), hN⟩) (blkAt m c ⟨8 + (k + 1), hN⟩) M2 (rd M1 (step (grid0.coords ⟨8 + (k + 1), hN⟩) (blkAt m c ⟨8 + (k + 1), hN⟩) (ref m c (8 + (k + 1)))).tm) (ref m c (8 + (k + 1))).ps) _ = _
    unfold n25
    rw [snd_at, rd_put]
    refine (pay15_at (R ⟨8 + (k + 1), hN⟩) _ ht _ f s).trans ?_
    rw [Net.sumTo, dif_pos hk, blk_snd m c R (k + 1) hk hN]
    exact congrArg (fun x => x + _) e

theorem mn_step (k : ℕ) (hk : k < 8) (hN : 8 + k < cfg0.N) (h : 0 < k → ∀ f s, rd M3 (ref m c (8 + k)).mn (ix2 f s) = A.loTo s f k) (f : Fin 32) (s : Fin 16) :
    rd M3 (ref m c (8 + k + 1)).mn (ix2 f s) = A.loTo s f (k + 1) := by
  have ht := tm_at m c R (8 + k) (by omega) (by omega)
  rw [show 8 + k + 1 = (⟨8 + k, hN⟩ : Fin cfg0.N).val + 1 from rfl, ref_succ] at ht ⊢
  have e := ini_at c k hN M3 (k0_pay4 (F := Ideal)) (ref m c (8 + k)).mn (ix2 f s) (A.loTo s f k) (fun h => by subst h; exact pay4_at _) (fun h0 => h h0 f s)
  show rd M3 (n26 (grid0.coords ⟨8 + k, hN⟩) (blkAt m c ⟨8 + k, hN⟩) M3 (rd M1 (step (grid0.coords ⟨8 + k, hN⟩) (blkAt m c ⟨8 + k, hN⟩) (ref m c (8 + k))).tm) (ref m c (8 + k)).mn) _ = _
  have R' := R ⟨8 + k, hN⟩
  rw [blk_snd m c R k hk hN] at R'
  unfold n26
  rw [snd_at, rd_segs M3 _ _ min (fun s f => A.hlo s f ⟨k, hk⟩ 1) (fun s v f => minB_at R' _ ht s v f)
      (fun s f x hg => by rw [hlo_off R' 1 _ (baseB R') s f hg]; exact min_top_right x),
    rd_segs M3 _ _ min (fun s f => A.hlo s f ⟨k, hk⟩ 0) (fun s v f => minA_at R' _ ht s v f)
      (fun s f x hg => by rw [hlo_off R' 0 _ (baseA R') s f hg]; exact min_top_right x), Net.loTo, dif_pos hk]
  exact congrArg (fun x => min (min x _) _) e

theorem mx_step (k : ℕ) (hk : k < 8) (hN : 8 + k < cfg0.N) (h : 0 < k → ∀ f s, rd M4 (ref m c (8 + k)).mx (ix2 f s) = A.hiTo s f k) (f : Fin 32) (s : Fin 16) :
    rd M4 (ref m c (8 + k + 1)).mx (ix2 f s) = A.hiTo s f (k + 1) := by
  have ht := tm_at m c R (8 + k) (by omega) (by omega)
  rw [show 8 + k + 1 = (⟨8 + k, hN⟩ : Fin cfg0.N).val + 1 from rfl, ref_succ] at ht ⊢
  have e := ini_at c k hN M4 (k0_pay5 (F := Ideal)) (ref m c (8 + k)).mx (ix2 f s) (A.hiTo s f k) (fun h => by subst h; exact pay5_at _) (fun h0 => h h0 f s)
  show rd M4 (n27 (grid0.coords ⟨8 + k, hN⟩) (blkAt m c ⟨8 + k, hN⟩) M4 (rd M1 (step (grid0.coords ⟨8 + k, hN⟩) (blkAt m c ⟨8 + k, hN⟩) (ref m c (8 + k))).tm) (ref m c (8 + k)).mx) _ = _
  have R' := R ⟨8 + k, hN⟩
  rw [blk_snd m c R k hk hN] at R'
  unfold n27
  rw [snd_at, rd_segs M4 _ _ max (fun s f => A.hhi s f ⟨k, hk⟩ 1) (fun s v f => maxB_at R' _ ht s v f)
      (fun s f x hg => by rw [hhi_off R' 1 _ (baseB R') s f hg]; exact max_bot_right x),
    rd_segs M4 _ _ max (fun s f => A.hhi s f ⟨k, hk⟩ 0) (fun s v f => maxA_at R' _ ht s v f)
      (fun s f x hg => by rw [hhi_off R' 0 _ (baseA R') s f hg]; exact max_bot_right x), Net.hiTo, dif_pos hk]
  exact congrArg (fun x => max (max x _) _) e

theorem mn_to (k : ℕ) (hk : k < 8) : ∀ f s, rd M3 (ref m c (8 + k + 1)).mn (ix2 f s) = A.loTo s f (k + 1) := by
  induction k with
  | zero => exact mn_step m c R 0 hk (by rw [N_eq]; omega) fun h => absurd h (by omega)
  | succ k ih => exact mn_step m c R (k + 1) hk (by rw [N_eq]; omega) fun _ => ih (by omega)
theorem mx_to (k : ℕ) (hk : k < 8) : ∀ f s, rd M4 (ref m c (8 + k + 1)).mx (ix2 f s) = A.hiTo s f (k + 1) := by
  induction k with
  | zero => exact mx_step m c R 0 hk (by rw [N_eq]; omega) fun h => absurd h (by omega)
  | succ k ih => exact mx_step m c R (k + 1) hk (by rw [N_eq]; omega) fun _ => ih (by omega)

/-- The last point's output is the network's. -/
theorem outSt_at (t : Fin cfg0.N) (ht : t.val = 15) (s : Fin 16) (k : Fin 5) : outSt (blkAt m c t) (ref m c (t.val + 1)) (ix2 s k) = A.out s k := by
  unfold outSt
  rw [ht]
  refine out_at (R t) _ _ _ (fun f s => ?_) (fun f s => ?_) (fun f s => ?_) s k
  · exact (ps_to m c R 7 (by omega) f s).trans (Net.sumTo_eq A _ s f)
  · exact (mn_to m c R 7 (by omega) f s).trans (Net.loTo_eq A s f)
  · exact (mx_to m c R 7 (by omega) f s).trans (Net.hiTo_eq A s f)
end Chain
end Cert.KernelIdeal.Hand
-- ==== Proof.Reads.lean ====
module
public import proofs.«01_k».proof.Proof.Run
public import Idealize.ShloMosaic.Lib.Pipeline.ValueKit
public import Idealize.ShloMosaic.Lib.Pointwise
@[expose] public section
set_option maxRecDepth 16384
noncomputable section
/-! # What a grid point's blocks hold, from the arguments -/
namespace Cert.KernelIdeal.Hand
open Cert.KernelIdeal Cert.KernelIdeal.Gen
open Idealize.ShloMosaic Idealize.ShloMosaic.TcCoe

variable (m : (ℓ : Loc nD τ sig) → Buf (Elt Ideal) ℓ) (c : Dev nD) (t : Fin cfg0.N)

/-- Which block each input window holds. -/
theorem idx0 : ∀ t : Fin cfg0.N, win0_0.index t = ![0] ∧ win0_1.index t = ![0, t.val % 8] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] ∧ win0_19.index t = ![0, 0] := by decide

theorem cu_at (k : Fin 17) : (blkAt m c t).cu k = m ((c : Thread nD τ).loc main_arg15) (ix1 k) := by
  unfold blkAt blk
  pointwise []
  blk_ext! [iblk, V, idx0 t]

theorem xa_at (k : Fin 4) (j : Fin 2048) : (blkAt m c t).xa (ix2 k j) = m ((c : Thread nD τ).loc main_arg0) (ix2 ⟨t.val % 8 * 4096 + j, by omega⟩ k) := by
  unfold blkAt blk
  pointwise []
  blk_ext! [iblk, V, idx0 t]

theorem xb_at (k : Fin 4) (j : Fin 2048) : (blkAt m c t).xb (ix2 k j) = m ((c : Thread nD τ).loc main_arg0) (ix2 ⟨t.val % 8 * 4096 + 2048 + j, by omega⟩ k) := by
  unfold blkAt blk
  pointwise []
  blk_ext! [iblk, V, idx0 t]

theorem mean_at (k : Fin 4) : (blkAt m c t).mean (ix2 k 0) = m ((c : Thread nD τ).loc main_arg1) (ix1 k) := by
  unfold blkAt blk
  pointwise []
  blk_ext! [iblk, V, idx0 t]

theorem inv_at (k : Fin 4) : (blkAt m c t).inv (ix2 k 0) = Ideal.div 1 (Ideal.sqrt (m ((c : Thread nD τ).loc main_arg2) (ix1 k))) := by
  unfold blkAt blk
  pointwise []
  have e : iblk m c 3 t (ix2 k 0) = V m c main_v7 (ix2 k 0) := by blk_ext [iblk, idx0 t]
  rw [e]
  entry_read
  pointwise []

theorem sc_at (k : Fin 16) : (blkAt m c t).sc (ix2 k 0) = m ((c : Thread nD τ).loc main_arg15) (ix1 k.castSucc) := by
  unfold blkAt blk
  pointwise []
  blk_ext! [iblk, V, idx0 t]
  all_goals rfl

theorem sr_at (k : Fin 16) : (blkAt m c t).sr (ix2 0 k) = m ((c : Thread nD τ).loc main_arg15) (ix1 k.castSucc) := by
  unfold blkAt blk
  pointwise []
  blk_ext! [iblk, V, idx0 t]
  all_goals rfl

theorem ec_at (k : Fin 16) : (blkAt m c t).ec (ix2 k 0) = m ((c : Thread nD τ).loc main_arg15) (ix1 k.succ) := by
  unfold blkAt blk
  pointwise []
  blk_ext! [iblk, V, idx0 t]
  all_goals (simp only [Fin.val_succ]; omega)

theorem er_at (k : Fin 16) : (blkAt m c t).er (ix2 0 k) = m ((c : Thread nD τ).loc main_arg15) (ix1 k.succ) := by
  unfold blkAt blk
  pointwise []
  blk_ext! [iblk, V, idx0 t]
  all_goals (simp only [Fin.val_succ]; omega)

theorem w0_at (a : Fin 4) (b : Fin 32) : (blkAt m c t).w0 (ix2 a b) = m ((c : Thread nD τ).loc main_arg3) (ix2 a b) := by
  unfold blkAt blk
  pointwise []
  blk_ext! [iblk, V, idx0 t]

theorem w2_at (a : Fin 32) (b : Fin 32) : (blkAt m c t).w2 (ix2 a b) = m ((c : Thread nD τ).loc main_arg7) (ix2 a b) := by
  unfold blkAt blk
  pointwise []
  blk_ext! [iblk, V, idx0 t]

theorem w4_at (a : Fin 96) (b : Fin 128) : (blkAt m c t).w4 (ix2 a b) = m ((c : Thread nD τ).loc main_arg9) (ix2 a b) := by
  unfold blkAt blk
  pointwise []
  blk_ext! [iblk, V, idx0 t]

theorem w5_at (a : Fin 128) (b : Fin 128) : (blkAt m c t).w5 (ix2 a b) = m ((c : Thread nD τ).loc main_arg11) (ix2 a b) := by
  unfold blkAt blk
  pointwise []
  blk_ext! [iblk, V, idx0 t]

theorem wo_at (a : Fin 128) (b : Fin 5) : (blkAt m c t).wo (ix2 a b) = m ((c : Thread nD τ).loc main_arg13) (ix2 a b) := by
  unfold blkAt blk
  pointwise []
  blk_ext! [iblk, V, idx0 t]

theorem w1a_at (a : Fin 32) (b : Fin 32) : (blkAt m c t).w1a (ix2 a b) = m ((c : Thread nD τ).loc main_arg5) (ix2 ⟨a.val, by omega⟩ b) := by
  unfold blkAt blk
  pointwise []
  blk_ext! [iblk, V, idx0 t]

theorem w1b_at (a : Fin 32) (b : Fin 32) : (blkAt m c t).w1b (ix2 a b) = m ((c : Thread nD τ).loc main_arg5) (ix2 ⟨32 + a.val, by omega⟩ b) := by
  unfold blkAt blk
  pointwise []
  blk_ext! [iblk, V, idx0 t]

theorem b0_at (a : Fin 32) : (blkAt m c t).b0 (ix2 a 0) = m ((c : Thread nD τ).loc main_arg4) (ix1 a) := by
  unfold blkAt blk
  pointwise []
  blk_ext! [iblk, V, idx0 t]

theorem b1_at (a : Fin 32) : (blkAt m c t).b1 (ix2 a 0) = m ((c : Thread nD τ).loc main_arg6) (ix1 a) := by
  unfold blkAt blk
  pointwise []
  blk_ext! [iblk, V, idx0 t]

theorem b2_at (a : Fin 32) : (blkAt m c t).b2 (ix2 a 0) = m ((c : Thread nD τ).loc main_arg8) (ix1 a) := by
  unfold blkAt blk
  pointwise []
  blk_ext! [iblk, V, idx0 t]

theorem b4_at (a : Fin 128) : (blkAt m c t).b4 (ix2 0 a) = m ((c : Thread nD τ).loc main_arg10) (ix1 a) := by
  unfold blkAt blk
  pointwise []
  blk_ext! [iblk, V, idx0 t]

theorem b5_at (a : Fin 128) : (blkAt m c t).b5 (ix2 0 a) = m ((c : Thread nD τ).loc main_arg12) (ix1 a) := by
  unfold blkAt blk
  pointwise []
  blk_ext! [iblk, V, idx0 t]

theorem bo_at (a : Fin 5) : (blkAt m c t).bo (ix2 0 a) = m ((c : Thread nD τ).loc main_arg14) (ix1 a) := by
  unfold blkAt blk
  pointwise []
  blk_ext! [iblk, V, idx0 t]

end Cert.KernelIdeal.Hand
-- ==== Proof.Segs.lean ====
module
public import proofs.«01_k».proof.Proof.Gen.ReferenceIdeal
public import proofs.«01_k».proof.Proof.Gen.ReferenceIdeal.Run
public import proofs.«01_k».proof.Proof.Net
public import Idealize.ShloMosaic.Lib.Pointwise
public import Idealize.ShloMosaic.Lib.Routing.Ops
public import Idealize.ShloMosaic.Lib.Routing.OpsSet
public import Idealize.ShloMosaic.Lib.Routing.OpsPair
public import Idealize.ShloMosaic.Lib.StableHlo.Predicate
public import Idealize.ShloMosaic.Lib.Tactic.CleanTypes
@[expose] public section
set_option maxRecDepth 16384
noncomputable section
/-! # The reference's segment numbers -/
namespace Cert.ReferenceIdeal.Hand
open Cert.ReferenceIdeal Cert.ReferenceIdeal.Gen Cert.ReferenceIdeal.Value Cert.Net
open Idealize.ShloMosaic Idealize.ShloMosaic.TcCoe

/-! ## Where an update of the three scatters lands -/

theorem start_hist (u : Fin 16) (idx : IVec S16x1 32) : scatter_S32768_S16x1_S16_n_0_0_1.start (ix1 u) idx 0 = (idx (ix2 u 0)).toInt := by
  unfold ScatterDims.start
  rw [dif_pos (by decide)]
  refine congrArg (fun q => (idx q).toInt) (funext fun b => ?_)
  match b with
  | 0 => rfl
  | 1 => rfl
theorem win_hist (u : Fin 16) : scatter_S32768_S16x1_S16_n_0_0_1.window (ix1 u) 0 = 0 := by
  unfold ScatterDims.window
  rw [dif_neg (by decide)]
theorem lands_hist (u : Fin 16) (idx : IVec S16x1 32) (e : Fin 32768) :
    scatter_S32768_S16x1_S16_n_0_0_1.resultIdx? (ix1 u) idx = some (ix1 e) ↔ (idx (ix2 u 0)).toInt = (e.val : Int) := by
  rw [Routing.resultIdx?_eq_some]
  constructor
  · intro h
    have h0 := h 0
    rw [start_hist, win_hist] at h0
    exact (Int.add_zero _).symm.trans h0
  · intro h a
    match a with
    | 0 => rw [start_hist, win_hist, h]; rfl

theorem lands_set (k : S_.Idx) (idx : IVec S1 32) (e : Fin 16) :
    scatter_S16_S1_S__n_0_0_0.resultIdx? k idx = some (ix1 e) ↔ (idx (ix1 0)).toInt = (e.val : Int) := by
  have hs : scatter_S16_S1_S__n_0_0_0.start k idx 0 = (idx (ix1 0)).toInt := by
    unfold ScatterDims.start
    rw [dif_pos (by decide)]
    refine congrArg (fun q => (idx q).toInt) (funext fun b => ?_)
    match b with
    | 0 => rfl
  have hw : scatter_S16_S1_S__n_0_0_0.window k 0 = 0 := by
    unfold ScatterDims.window
    rw [dif_neg (by decide)]
  rw [Routing.resultIdx?_eq_some]
  constructor
  · intro h
    have h0 := h 0
    rw [hs, hw] at h0
    exact (Int.add_zero _).symm.trans h0
  · intro h a
    match a with
    | 0 => rw [hs, hw, h]; rfl

theorem lands_row (n : Fin 32768) (g : Fin 32) (idx : IVec S32768x1 32) (s : Fin 16) (f : Fin 32) :
    scatter_S16x32_S32768x1_S32768x32_1_0_0_1.resultIdx? (ix2 n g) idx = some (ix2 s f) ↔ (idx (ix2 n 0)).toInt = (s.val : Int) ∧ g = f := by
  have hs : scatter_S16x32_S32768x1_S32768x32_1_0_0_1.start (ix2 n g) idx 0 = (idx (ix2 n 0)).toInt := by
    unfold ScatterDims.start
    rw [dif_pos (by decide)]
    refine congrArg (fun q => (idx q).toInt) (funext fun b => ?_)
    match b with
    | 0 => rfl
    | 1 => rfl
  have hs1 : scatter_S16x32_S32768x1_S32768x32_1_0_0_1.start (ix2 n g) idx 1 = 0 := by
    unfold ScatterDims.start
    rw [dif_neg (by decide)]
  have hw : scatter_S16x32_S32768x1_S32768x32_1_0_0_1.window (ix2 n g) 0 = 0 := by
    unfold ScatterDims.window
    rw [dif_neg (by decide)]
  have hw1 : scatter_S16x32_S32768x1_S32768x32_1_0_0_1.window (ix2 n g) 1 = g.val := by
    unfold ScatterDims.window
    rw [dif_pos (by decide)]
    rfl
  rw [Routing.resultIdx?_eq_some]
  constructor
  · intro h
    have h0 := h 0
    have h1 := h 1
    rw [hs, hw] at h0
    rw [hs1, hw1] at h1
    refine ⟨(Int.add_zero _).symm.trans h0, Fin.ext ?_⟩
    have : (0 : Int) + (g.val : Int) = (f.val : Int) := h1
    omega
  · rintro ⟨h, rfl⟩ a
    match a with
    | 0 => rw [hs, hw, h]; rfl
    | 1 => rw [hs1, hw1]; exact Int.zero_add _

/-! ## Words -/

theorem toInt_nat (a : ℕ) (h : a < 2^31) : (BitVec.ofNat 32 a).toInt = a := StableHlo.Predicate.toInt_ofNat_small a h

theorem not_neg (a : ℕ) (h : a < 2^31) (y : BitVec 32) : Scalar.select (IntOp.cmpi .slt (BitVec.ofNat 32 a) 0#32) y (BitVec.ofNat 32 a) = BitVec.ofNat 32 a :=
  Routing.wrap_of_lt _ _ (by rw [BitVec.toNat_ofNat]; exact lt_of_le_of_lt (Nat.mod_le _ _) h)

theorem sub_nat (a b : ℕ) (h : b ≤ a) : IntOp.subi (BitVec.ofNat 32 a) (BitVec.ofNat 32 b) = BitVec.ofNat 32 (a - b) := by
  show BitVec.ofNat 32 a - BitVec.ofNat 32 b = _
  obtain ⟨d, rfl⟩ := Nat.exists_eq_add_of_le h
  rw [Nat.add_sub_cancel_left, BitVec.ofNat_add]
  abel

/-- A count kept by a fold of word additions. -/
theorem fold_count {α : Type} (l : List α) (p : α → Prop) [DecidablePred p] (k : ℕ) :
    l.foldl (fun a n => if p n then IntOp.addi a 1#32 else a) (BitVec.ofNat 32 k) = BitVec.ofNat 32 (k + l.countP (fun n => decide (p n))) := by
  induction l generalizing k with
  | nil => rfl
  | cons x l ih =>
    rw [List.foldl_cons, List.countP_cons]
    by_cases h : p x
    · rw [if_pos h, show IntOp.addi (BitVec.ofNat 32 k) 1#32 = BitVec.ofNat 32 (k + 1) from (BitVec.ofNat_add k 1).symm, ih]
      simp [h]; congr 1; omega
    · rw [if_neg h, ih]; simp [h]

/-! ## The segment of a point -/

/-- The boundaries are what the precondition says. -/
structure Cuts (V0 : Valuation τ sig (Elt Ideal)) (C : Fin 17 → ℕ) : Prop where
  word : ∀ k, V0 (Proc.devRef .tc main_arg15) (ix1 k) = BitVec.ofNat 32 (C k)
  mono : Monotone C
  first : C 0 = 0
  last : C 16 = 32768

variable {V0 : Valuation τ sig (Elt Ideal)} {C : Fin 17 → ℕ} (H : Cuts V0 C)
include H

theorem C_le (k : Fin 17) : C k ≤ 32768 := by rw [← H.last]; exact H.mono (Fin.le_last k)

omit H in
theorem exists_seg (C : Fin 17 → ℕ) (h0 : C 0 = 0) (h1 : C 16 = 32768) (n : Fin 32768) : ∃ s : Fin 16, C s.castSucc ≤ n.val ∧ n.val < C s.succ := by
  by_contra hc
  have hstep : ∀ k : ℕ, ∀ hk : k < 17, C ⟨k, hk⟩ ≤ n.val := by
    intro k
    induction k with
    | zero => intro _; exact (le_of_eq h0).trans (Nat.zero_le _)
    | succ k ih =>
      intro hk
      by_contra hlt
      exact hc ⟨⟨k, by omega⟩, ih (by omega), not_le.1 hlt⟩
  have := hstep 16 (by omega)
  have e : C ⟨16, by omega⟩ = 32768 := h1
  have := n.isLt
  omega

theorem v2_at (s : Fin 16) : res_main_v2 V0 (ix1 s) = BitVec.ofNat 32 (C s.succ - C s.castSucc) := by
  rw [← sub_nat _ _ (H.mono (Fin.castSucc_lt_succ).le), ← H.word, ← H.word]
  unfold res_main_v2
  clean_types
  pointwise []
  rw [show (⟨1 + s.val, by omega⟩ : Fin 17) = s.succ from Fin.ext (Nat.add_comm _ _)]
  rfl

omit H in
/-- The first boundary of segment `j`, as a sum of sizes. -/
theorem sum_sizes (D : ℕ → ℕ) (h0 : D 0 = 0) (hm : ∀ k, k < 15 → D k ≤ D (k + 1)) (j : ℕ) (hj : j < 16) :
    ((List.range (j + 1)).map fun i => if i = 0 then 0 else D i - D (i - 1)).sum = D j := by
  induction j with
  | zero => simp [h0]
  | succ j ih =>
    rw [List.range_succ, List.map_append, List.sum_append, ih (by omega)]
    have := hm j (by omega)
    simp
    omega

/-- The sizes shifted by one place, the first replaced by zero. -/
theorem shift_at (j : Fin 16) :
    Host.scatter scatter_S16_S1_S__n_0_0_0 (fun _ b => b) (concatenate S16 0 [⟨S1, (extractStridedSlice S1 ![15] (res_main_v2 V0) slices_S16_S1_15)⟩, ⟨S15, (extractStridedSlice S15 ![0] (res_main_v2 V0) slices_S16_S15_0)⟩] concatenates_S1_S15_S16_d0) (broadcastInDim S1 ![] bcast_S_S1 (constantI S_ 32 0#32)) (constantI S_ 32 0#32) (ix1 j)
      = BitVec.ofNat 32 (if j.val = 0 then 0 else C j.castSucc - C ⟨j.val - 1, by omega⟩) := by
  by_cases hj : j.val = 0
  · rw [if_pos hj]
    refine Routing.scatter_set_hit _ _ _ _ _ _ (fun _ _ => rfl) ix0 ((lands_set _ _ _).2 ?_)
    rw [hj]; rfl
  · rw [if_neg hj, Routing.scatter_set_miss _ _ _ _ _ fun k h => hj (by
      have := (lands_set _ _ _).1 h
      have e : (0 : Int) = j.val := this
      omega)]
    pointwise []
    rw [dif_neg (by omega), v2_at H]
    refine congrArg (BitVec.ofNat 32) (congrArg₂ (· - ·) ?_ rfl)
    refine congrArg C (Fin.ext ?_)
    simp; omega

/-- The boundaries by number. -/
def bd (C : Fin 17 → ℕ) (k : ℕ) : ℕ := if h : k < 17 then C ⟨k, h⟩ else 0

theorem v7_at (j : Fin 16) : res_main_v7 V0 (ix1 j) = BitVec.ofNat 32 (C j.castSucc) := by
  unfold res_main_v7
  rw [ix1_eq_valueIdx]
  refine (Routing.cumsum1 (N := 16) (Nm1 := 15) rfl _ (fun i => if i = 0 then 0 else bd C i - bd C (i - 1)) (fun i => ?_) _ rfl _ _ j).trans ?_
  · rw [← ix1_eq_valueIdx]
    refine (shift_at H i).trans (congrArg (BitVec.ofNat 32) ?_)
    have hi := i.isLt
    unfold bd
    rw [dif_pos (by omega), dif_pos (by omega)]
    rfl
  · rw [sum_sizes (bd C) (by unfold bd; exact H.first) (fun k hk => by
      unfold bd
      rw [dif_pos (by omega), dif_pos (by omega)]
      exact H.mono (Fin.mk_le_mk.2 (Nat.le_succ k))) j.val j.isLt]
    have hj := j.isLt
    unfold bd
    rw [dif_pos (by omega)]
    rfl

omit H in
theorem fold_cast {N M : ℕ} (h : N = M) {β : Type} (g : β → Fin N → β) (g' : β → Fin M → β) (hg : ∀ a k, g a k = g' a (k.cast h)) (z z' : β) (hz : z = z') :
    (List.finRange N).foldl g z = (List.finRange M).foldl g' z' := by
  subst h hz
  congr 1
  funext a k
  exact hg a k

/-- How many segments begin at a point. -/
theorem hist_at (n : Fin 32768) :
    Host.scatter scatter_S32768_S16x1_S16_n_0_0_1 IntOp.addi (broadcastInDim S32768 ![] bcast_S_S32768 (constantI S_ 32 0#32)) (broadcastInDim S16x1 ![0] bcast_S16_S16x1_0 (select (cmpi .slt (res_main_v7 V0) (broadcastInDim S16 ![] bcast_S_S16 (constantI S_ 32 0#32))) (addi (res_main_v7 V0) (broadcastInDim S16 ![] bcast_S_S16 (constantI S_ 32 32768#32))) (res_main_v7 V0))) (broadcastInDim S16 ![] bcast_S_S16 (constantI S_ 32 1#32)) (ix1 n)
      = BitVec.ofNat 32 ((List.finRange 16).countP fun u => decide (C u.castSucc = n.val)) := by
  rw [Routing.scatter_at]
  have hl : ∀ u : Fin 16, (scatter_S32768_S16x1_S16_n_0_0_1.resultIdx? (ix1 u) (broadcastInDim S16x1 ![0] bcast_S16_S16x1_0 (select (cmpi .slt (res_main_v7 V0) (broadcastInDim S16 ![] bcast_S_S16 (constantI S_ 32 0#32))) (addi (res_main_v7 V0) (broadcastInDim S16 ![] bcast_S_S16 (constantI S_ 32 32768#32))) (res_main_v7 V0))) = some (ix1 n)) ↔ C u.castSucc = n.val := fun u => by
    rw [lands_hist]
    pointwise []
    have h := C_le H u.castSucc
    rw [v7_at H, not_neg _ (by omega), toInt_nat _ (by omega)]
    exact Int.ofNat_inj
  refine (fold_cast (Routing.numel1 16) _ (fun a u => if C u.castSucc = n.val then IntOp.addi a 1#32 else a) (fun a k => ?_) _ (BitVec.ofNat 32 0) (by pointwise [])).trans
    ((fold_count (List.finRange 16) (fun u => C u.castSucc = n.val) 0).trans (congrArg (BitVec.ofNat 32) (Nat.zero_add _)))
  rw [show S16.rowMajor.symm k = ix1 (k.cast (Routing.numel1 16)) from by rw [ix1_eq_valueIdx]; exact Routing.symm1 k]
  refine if_congr (hl _) ?_ rfl
  pointwise []

/-- How many of the boundaries up to a segment's are at most a point of the segment. -/
theorem v19_at (n : Fin 32768) (s : Fin 16) (hs : C s.castSucc ≤ n.val ∧ n.val < C s.succ) : res_main_v19 V0 (ix1 n) = BitVec.ofNat 32 s.val := by
  have hsum : ∀ k : ℕ, ((List.range (k + 1)).map fun i => (List.finRange 16).countP fun u => decide (C u.castSucc = i)).sum = (List.finRange 16).countP fun u => decide (C u.castSucc ≤ k) := by
    intro k
    induction k with
    | zero => simp
    | succ k ih =>
      rw [List.range_succ, List.map_append, List.sum_append, ih]
      simp only [List.map_cons, List.map_nil, List.sum_cons, List.sum_nil, Nat.add_zero]
      generalize List.finRange 16 = l
      induction l with
      | nil => rfl
      | cons x l ihl =>
        simp only [List.countP_cons, decide_eq_true_eq]
        split_ifs <;> omega
  have hcount : ((List.finRange 16).countP fun u => decide (C u.castSucc ≤ n.val)) = s.val + 1 := by
    have : ∀ u : Fin 16, decide (C u.castSucc ≤ n.val) = decide (u ≤ s) := fun u => by
      refine decide_eq_decide.2 ⟨fun h => ?_, fun h => (H.mono (Fin.castSucc_le_castSucc_iff.2 h)).trans hs.1⟩
      by_contra hlt
      have : C s.succ ≤ C u.castSucc := H.mono (by
        have := not_le.1 hlt
        exact Fin.le_def.2 (by simp only [Fin.val_succ, Fin.val_castSucc]; omega))
      omega
    simp only [this]
    clear hs hsum this
    revert s; decide
  unfold res_main_v19
  show IntOp.subi _ 1#32 = _
  rw [ix1_eq_valueIdx]
  rw [Routing.cumsum1 (N := 32768) (Nm1 := 32767) rfl _ (fun i => (List.finRange 16).countP fun u => decide (C u.castSucc = i)) (fun i => by
    rw [← ix1_eq_valueIdx]; exact hist_at H i) _ rfl _ _ n, hsum, hcount]
  exact sub_nat (s.val + 1) 1 (by omega)

theorem v5_at (n : Fin 32768) (s : Fin 16) (hs : C s.castSucc ≤ n.val ∧ n.val < C s.succ) : res_main_call3_v5 V0 (ix2 n 0) = BitVec.ofNat 32 s.val := by
  have h := s.isLt
  unfold res_main_call3_v5
  pointwise []
  rw [v19_at H n s hs, not_neg _ (by omega)]

/-- The reference numbers a point by its segment. -/
theorem v20_at (n : Fin 32768) (s : Fin 16) (hs : C s.castSucc ≤ n.val ∧ n.val < C s.succ) : res_main_v20 V0 (ix1 n) = BitVec.ofNat 32 s.val := by
  have h := s.isLt
  have hg : Host.gather gather_S16_S32768x1_S32768_n_0_n_n_0_1_1 (iotaInDim S16 32 0) (res_main_call3_v5 V0) (ix1 n) = BitVec.ofNat 32 s.val := by
    rw [ix1_eq_valueIdx]
    refine (Routing.gather_take1 _ rfl rfl rfl rfl _ _ n s ?_ (by omega)).trans rfl
    rw [← ix2_eq_valueIdx]; exact v5_at H n s hs
  unfold res_main_v20
  clean_types
  pointwise []
  rw [hg]
  simp only [Finset.univ_unique, Finset.fold_singleton, Fin.default_eq_zero, v5_at H n s hs]
  clear hg hs
  revert s; decide

end Cert.ReferenceIdeal.Hand
-- ==== Proof.Ref.lean ====
module
public import proofs.«01_k».proof.Proof.Segs
@[expose] public section
set_option maxRecDepth 16384
noncomputable section
/-! # What the reference computes -/
namespace Cert.ReferenceIdeal.Hand
open Cert.ReferenceIdeal Cert.ReferenceIdeal.Gen Cert.ReferenceIdeal.Value Cert.Net
open Idealize.ShloMosaic Idealize.ShloMosaic.TcCoe

/-- A sum of rows by number. -/
theorem sum_rows (x : FVec Ideal S16x32 .f32) (idx : IVec S32768x1 32) (v : FVec Ideal S32768x32 .f32) (s : Fin 16) (f : Fin 32)
    (P : Fin 32768 → Prop) [DecidablePred P] (hP : ∀ n, (idx (ix2 n 0)).toInt = (s.val : Int) ↔ P n) :
    Host.scatterAdd scatter_S16x32_S32768x1_S32768x32_1_0_0_1 x idx v (ix2 s f) = x (ix2 s f) + ∑ n, if P n then v (ix2 n f) else 0 := by
  show x (ix2 s f) + ∑ j ∈ Finset.univ.filter (fun j => scatter_S16x32_S32768x1_S32768x32_1_0_0_1.resultIdx? j idx = some (ix2 s f)), v j = _
  rw [Finset.sum_filter, sum_idx2]
  refine congrArg (fun z => x (ix2 s f) + z) (Finset.sum_congr rfl fun n _ => ?_)
  simp only [lands_row, hP]
  rw [Finset.sum_eq_single f (fun g _ hg => if_neg fun h => hg h.2) (fun h => absurd (Finset.mem_univ f) h)]
  simp

/-- The reference's arguments hold the network's inputs. -/
structure Refs (A : Net) (V0 : Valuation τ sig (Elt Ideal)) : Prop where
  cuts : Cuts V0 A.C
  Q : ∀ s, FloatOps.sitofp (F := Ideal) FTy.f32 (IntOp.maxsi (res_main_v2 V0 (ix1 s)) 1#32) = A.Q s
  E : ∀ s, IntOp.cmpi .sgt (res_main_v2 V0 (ix1 s)) 0#32 = A.E s
  x : ∀ n k, Ideal.div (HSub.hSub (α := EReal) (β := EReal) (γ := EReal) (V0 (Proc.devRef .tc main_arg0) (ix2 n k)) (V0 (Proc.devRef .tc main_arg1) (ix1 k))) (Ideal.sqrt (V0 (Proc.devRef .tc main_arg2) (ix1 k))) = A.x n k
  w0 : ∀ a b, V0 (Proc.devRef .tc main_arg3) (ix2 a b) = A.w0 a b
  b0 : ∀ a, V0 (Proc.devRef .tc main_arg4) (ix1 a) = A.b0 a
  w1a : ∀ (a b : Fin 32), V0 (Proc.devRef .tc main_arg5) (ix2 ⟨a.val, by omega⟩ b) = A.w1a a b
  w1b : ∀ (a b : Fin 32), V0 (Proc.devRef .tc main_arg5) (ix2 ⟨32 + a.val, by omega⟩ b) = A.w1b a b
  b1 : ∀ a, V0 (Proc.devRef .tc main_arg6) (ix1 a) = A.b1 a
  w2 : ∀ a b, V0 (Proc.devRef .tc main_arg7) (ix2 a b) = A.w2 a b
  b2 : ∀ a, V0 (Proc.devRef .tc main_arg8) (ix1 a) = A.b2 a
  w4 : ∀ a b, V0 (Proc.devRef .tc main_arg9) (ix2 a b) = A.w4 a b
  b4 : ∀ a, V0 (Proc.devRef .tc main_arg10) (ix1 a) = A.b4 a
  w5 : ∀ a b, V0 (Proc.devRef .tc main_arg11) (ix2 a b) = A.w5 a b
  b5 : ∀ a, V0 (Proc.devRef .tc main_arg12) (ix1 a) = A.b5 a
  wo : ∀ a b, V0 (Proc.devRef .tc main_arg13) (ix2 a b) = A.wo a b
  bo : ∀ a, V0 (Proc.devRef .tc main_arg14) (ix1 a) = A.bo a

variable {A : Net} {V0 : Valuation τ sig (Elt Ideal)} (R : Refs A V0)
include R

theorem ins_iff {s : Fin 16} {n : ℕ} (hs : A.ins s n) (u : Fin 16) : A.ins u n ↔ u = s := by
  refine ⟨fun hu => ?_, fun h => h ▸ hs⟩
  have key : ∀ a b : Fin 16, A.ins a n → A.ins b n → ¬ a < b := fun a b ha hb hlt => by
    have : A.C a.succ ≤ A.C b.castSucc := R.cuts.mono (Fin.le_def.2 (by simp only [Fin.val_succ, Fin.val_castSucc]; omega))
    have := ha.2
    have := hb.1
    omega
  exact le_antisymm (not_lt.1 (key s u hs hu)) (not_lt.1 (key u s hu hs))

theorem seg_of (n : Fin 32768) : ∃ s, A.ins s n.val := exists_seg A.C R.cuts.first R.cuts.last n

theorem num_iff (n : Fin 32768) (s : Fin 16) : (res_main_v20 V0 (ix1 n)).toInt = (s.val : Int) ↔ A.ins s n.val := by
  obtain ⟨u, hu⟩ := seg_of R n
  rw [v20_at R.cuts n u hu, ins_iff R hu, toInt_nat _ (by omega)]
  constructor
  · intro h; exact Fin.ext (by omega)
  · rintro rfl; rfl

theorem v32_at (n : Fin 32768) (f : Fin 32) : res_main_v32 V0 (ix2 n f) = A.lay n f := by
  unfold res_main_v32
  clean_types
  pointwise []
  unfold Net.lay
  simp only [R.x, R.w0, R.b0]

theorem v35_at (s : Fin 16) : res_main_v35 V0 (ix1 s) = A.Q s := by
  rw [← R.Q]
  unfold res_main_v35
  clean_types
  pointwise []

/-- A segment's sum over the reference's rows. -/
theorem tot_at (v : FVec Ideal S32768x32 .f32) (g : Fin 32768 → Fin 32 → EReal) (hv : ∀ n f, v (ix2 n f) = g n f) (s : Fin 16) (f : Fin 32) :
    Host.scatterAdd scatter_S16x32_S32768x1_S32768x32_1_0_0_1 (broadcastInDim S16x32 ![] bcast_S_S16x32 (constant S_ .f32 0x00000000#32)) (broadcastInDim S32768x1 ![0] bcast_S32768_S32768x1_0 (res_main_v20 V0)) v (ix2 s f)
      = A.tot g s f := by
  rw [sum_rows _ _ _ s f (fun n => A.ins s n.val) (fun n => by rw [← num_iff R n s]; pointwise [])]
  pointwise []
  unfold Net.tot
  simp only [hv]

/-- A point's row of its segment's means. -/
theorem row_at (x : FVec Ideal S16x32 .f32) (n : Fin 32768) (s : Fin 16) (hs : A.ins s n.val) (f : Fin 32) :
    Host.gather gather_S16x32_S32768x1_S32768x32_1_0_n_n_0_1_132 x (broadcastInDim S32768x1 ![0] bcast_S32768_S32768x1_0 (select (cmpi .slt (res_main_v20 V0) (broadcastInDim S32768 ![] bcast_S_S32768 (constantI S_ 32 0#32))) (addi (res_main_v20 V0) (broadcastInDim S32768 ![] bcast_S_S32768 (constantI S_ 32 16#32))) (res_main_v20 V0))) (ix2 n f)
      = x (ix2 s f) := by
  rw [ix2_eq_valueIdx, ix2_eq_valueIdx]
  refine Routing.gather_row _ rfl rfl rfl rfl rfl x _ n f s ?_ (by omega)
  rw [← ix2_eq_valueIdx]
  have h := s.isLt
  pointwise []
  rw [v20_at R.cuts n s hs, not_neg _ (by omega)]

theorem v59_at (n : Fin 32768) (f : Fin 32) : res_main_v59 V0 (ix2 n f) = A.top n f := by
  obtain ⟨s, hs⟩ := seg_of R n
  unfold res_main_v59
  clean_types
  pointwise []
  unfold Net.top Net.hid
  simp only [R.b2, R.w2, v32_at R, R.w1a, R.w1b, R.b1, row_at R _ n s hs]
  refine congrArg (fun x => max (x + _) _) (Finset.sum_congr rfl fun g _ => ?_)
  refine congrArg (fun x => max x 0 * _) ?_
  rw [add_assoc]
  refine congrArg (fun x => _ + x) ?_
  simp only [ins_iff R hs, Finset.sum_ite_eq', Finset.mem_univ, if_true]
  unfold Net.tm
  refine congrArg (fun x => x + _) (Finset.sum_congr rfl fun k _ => ?_)
  pointwise []
  rw [tot_at R _ A.lay (v32_at R), v35_at R]

theorem v62_at (s : Fin 16) : res_main_v62 V0 (ix2 s 0) = A.E s := by
  rw [← R.E]
  unfold res_main_v62
  clean_types
  pointwise []

theorem v75_at (s : Fin 16) (n : Fin 32768) : res_main_v75 V0 (ix3 s n 0) = if A.ins s n.val then 1#1 else 0#1 := by
  obtain ⟨u, hu⟩ := seg_of R n
  unfold res_main_v75
  clean_types
  pointwise []
  rw [v20_at R.cuts n u hu]
  simp only [ins_iff R hu]
  clear hu
  revert s u; decide

omit R in
theorem sel_ite (p : Prop) [Decidable p] (x y : EReal) : Scalar.select (if p then 1#1 else 0#1) x y = if p then x else y := by
  by_cases hp : p <;> simp [hp, Scalar.select]
omit R in
theorem inf_top : Ideal.ofBits .f32 0x7F800000#32 = ⊤ := by
  simp [Ideal.ofBits, Ideal.ieee]
omit R in
theorem ninf_bot : Ideal.ofBits .f32 0xFF800000#32 = ⊥ := by
  simp [Ideal.ofBits, Ideal.ieee]

/-- The reference's result is the network's. -/
theorem out_at (s : Fin 16) (k : Fin 5) : val2 V0 (Proc.devRef .tc main_v98) (ix2 s k) = A.out s k := by
  rw [val2_main_v98 V0]
  clean_types
  pointwise []
  have cT : id (constant (F := Ideal) S_ .f32 0x7F800000#32) ix0 = (⊤ : EReal) := inf_top
  have cB : id (constant (F := Ideal) S_ .f32 0xFF800000#32) ix0 = (⊥ : EReal) := ninf_bot
  have cZ : id (constant (F := Ideal) S_ .f32 0x00000000#32) ix0 = (0 : EReal) := by
    show Ideal.ofBits .f32 0x00000000#32 = 0
    simp [Ideal.ofBits, Ideal.ieee]
  rw [inf_top, ninf_bot, cT, cB, cZ]
  simp only [R.w4, R.b4, R.w5, R.b5, R.wo, R.bo, tot_at R _ A.top (v59_at R), v35_at R, v62_at R, v75_at R, v59_at R, sel_ite]
  rfl

end Cert.ReferenceIdeal.Hand
-- ==== Proof.Value.lean ====
module
public import proofs.«01_k».proof.Defs
public import proofs.«01_k».proof.Proof.Chain
public import proofs.«01_k».proof.Proof.Reads
public import proofs.«01_k».proof.Proof.Ref
@[expose] public section
set_option maxRecDepth 16384
noncomputable section
/-! # The kernel and the reference compute the same network -/
namespace Cert.Value
open Idealize.ShloMosaic Idealize.ShloMosaic.TcCoe Cert.Net

/-! ## What the precondition says -/

instance usableFacts : Cert.Pre_usable.Facts :=
  ⟨by decide, by decide, by decide, by decide, by decide, by decide, by decide, by decide, by decide, by decide, by decide⟩

/-- The second moments are nonzero, and the cuts run from 0 to 32768 without going back. -/
structure Usable (v : Fin 4 → EReal) (w : Fin 17 → BitVec 32) : Prop where
  nz : ∀ k, v k ≠ 0
  up : ∀ s : Fin 16, (w s.castSucc).toInt ≤ (w s.succ).toInt
  first : w 0 = 0#32
  last : w 16 = 32768#32

theorem and_one {x y : BitVec 1} (h : IntOp.andi x y = 1#1) : x = 1#1 ∧ y = 1#1 := by
  revert h; revert x y; decide

theorem ofBool_one {b : Bool} (h : BitVec.ofBool b = 1#1) : b = true := by
  revert h; revert b; decide

theorem eq_of_one {x y : BitVec 32} (h : IntOp.cmpi .eq x y = 1#1) : x = y := by
  simpa [IntOp.cmpi] using ofBool_one h

theorem sle_of_one {x y : BitVec 32} (h : IntOp.cmpi .sle x y = 1#1) : x.toInt ≤ y.toInt := by
  have := ofBool_one h
  simpa [BitVec.sle] using this

theorem usable_of (a0 : FVec Ideal Cert.Pre_usable.S32768x4 .f32) (a1 a2 : FVec Ideal Cert.Pre_usable.S4 .f32) (a3 : FVec Ideal Cert.Pre_usable.S4x32 .f32)
    (a4 : FVec Ideal Cert.Pre_usable.S32 .f32) (a5 : FVec Ideal Cert.Pre_usable.S64x32 .f32) (a6 : FVec Ideal Cert.Pre_usable.S32 .f32)
    (a7 : FVec Ideal Cert.Pre_usable.S32x32 .f32) (a8 : FVec Ideal Cert.Pre_usable.S32 .f32) (a9 : FVec Ideal Cert.Pre_usable.S96x128 .f32)
    (a10 : FVec Ideal Cert.Pre_usable.S128 .f32) (a11 : FVec Ideal Cert.Pre_usable.S128x128 .f32) (a12 : FVec Ideal Cert.Pre_usable.S128 .f32)
    (a13 : FVec Ideal Cert.Pre_usable.S128x5 .f32) (a14 : FVec Ideal Cert.Pre_usable.S5 .f32) (a15 : IVec Cert.Pre_usable.S17 32)
    (h : Cert.Pre_usable.fn (F := Ideal) a0 a1 a2 a3 a4 a5 a6 a7 a8 a9 a10 a11 a12 a13 a14 a15 = fun _ => 1#1) :
    Usable (fun k => a2 (ix1 k)) (fun k => a15 (ix1 k)) := by
  have at_ : ∀ (k : Fin 4) (s : Fin 16), (a2 (ix1 k) ≠ (0 : EReal) ∧ (a15 (ix1 s.castSucc)).toInt ≤ (a15 (ix1 s.succ)).toInt) ∧ a15 (ix1 0) = 0#32 ∧ a15 (ix1 16) = 32768#32 := fun k s => by
    have e := congrFun h (ix2 k s)
    pointwise [Cert.Pre_usable.fn] at e
    obtain ⟨e, e'⟩ := and_one e
    obtain ⟨e1, e2⟩ := and_one e
    obtain ⟨e3, e4⟩ := and_one e'
    rw [show (⟨1 + s.val, by omega⟩ : Fin 17) = s.succ from Fin.ext (Nat.add_comm _ _)] at e2
    refine ⟨⟨of_decide_eq_true (ofBool_one e1), ?_⟩, eq_of_one e3, eq_of_one e4⟩
    exact sle_of_one e2
  exact ⟨fun k => (at_ k 0).1.1, fun s => (at_ 0 s).1.2, (at_ 0 0).2.1, (at_ 0 0).2.2⟩

/-- The cuts as numbers: each stands for itself, and they never go back. -/
theorem cuts_of {v : Fin 4 → EReal} {w : Fin 17 → BitVec 32} (U : Usable v w) :
    Monotone (fun k => (w k).toNat) ∧ (∀ k, (w k).toNat ≤ 32768) ∧ ∀ k, w k = BitVec.ofNat 32 (w k).toNat := by
  have up : Monotone fun k => (w k).toInt := Fin.monotone_iff_le_succ.2 U.up
  have lo : ∀ k, 0 ≤ (w k).toInt := fun k => by
    have := up (Fin.zero_le k)
    simp only [U.first] at this
    exact this
  have hi : ∀ k, (w k).toInt ≤ 32768 := fun k => by
    have := up (Fin.le_last k)
    simp only [show Fin.last 16 = 16 from rfl, U.last] at this
    exact this
  have nat : ∀ k, ((w k).toNat : ℤ) = (w k).toInt := fun k => by
    have := lo k
    have := (w k).isLt
    rw [BitVec.toInt_eq_toNat_cond] at *
    split <;> rename_i h
    · rfl
    · rw [if_neg h] at *; omega
  refine ⟨fun a b hab => ?_, fun k => ?_, fun k => BitVec.eq_of_toNat_eq (by rw [BitVec.toNat_ofNat]; exact (Nat.mod_eq_of_lt (w k).isLt).symm)⟩
  · have := up hab
    simp only at this ⊢
    rw [← nat, ← nat] at this
    exact_mod_cast this
  · have := hi k
    rw [← nat] at this
    exact_mod_cast this

/-- Dividing by a root is multiplying by one over it, the number rooted not being zero. -/
theorem div_root (x v : EReal) (h : v ≠ 0) : Ideal.div x (Ideal.sqrt v) = x * Ideal.div 1 (Ideal.sqrt v) := by
  have hs : Ideal.sqrt v ≠ 0 := by
    induction v with
    | bot => exact EReal.bot_ne_zero
    | top => exact EReal.top_ne_zero
    | coe r =>
      have hr : r ≠ 0 := fun e => h (by rw [e]; rfl)
      unfold Ideal.sqrt
      split <;> rename_i e
      · simp
      · simp
      · cases e
        split
        · simp
        · rename_i hn
          exact_mod_cast (Real.sqrt_pos.2 (lt_of_le_of_ne (not_lt.1 hn) (Ne.symm hr))).ne'
  unfold Ideal.div
  rw [if_neg hs, if_neg hs, one_mul]

/-! ## The network the arguments make -/

/-- The kernel's arguments on a chip, as a network. -/
def net (m : (ℓ : Loc Cert.KernelIdeal.nD Cert.KernelIdeal.τ Cert.KernelIdeal.sig) → Buf (Elt Ideal) ℓ) (c : Dev Cert.KernelIdeal.nD) : Net where
  x n k := HSub.hSub (α := EReal) (β := EReal) (γ := EReal) (m ((c : Thread Cert.KernelIdeal.nD Cert.KernelIdeal.τ).loc Cert.KernelIdeal.main_arg0) (ix2 n k))
    (m ((c : Thread Cert.KernelIdeal.nD Cert.KernelIdeal.τ).loc Cert.KernelIdeal.main_arg1) (ix1 k))
    * Ideal.div 1 (Ideal.sqrt (m ((c : Thread Cert.KernelIdeal.nD Cert.KernelIdeal.τ).loc Cert.KernelIdeal.main_arg2) (ix1 k)))
  w0 a b := m ((c : Thread Cert.KernelIdeal.nD Cert.KernelIdeal.τ).loc Cert.KernelIdeal.main_arg3) (ix2 a b)
  b0 a := m ((c : Thread Cert.KernelIdeal.nD Cert.KernelIdeal.τ).loc Cert.KernelIdeal.main_arg4) (ix1 a)
  w1a a b := m ((c : Thread Cert.KernelIdeal.nD Cert.KernelIdeal.τ).loc Cert.KernelIdeal.main_arg5) (ix2 ⟨a.val, by omega⟩ b)
  w1b a b := m ((c : Thread Cert.KernelIdeal.nD Cert.KernelIdeal.τ).loc Cert.KernelIdeal.main_arg5) (ix2 ⟨32 + a.val, by omega⟩ b)
  b1 a := m ((c : Thread Cert.KernelIdeal.nD Cert.KernelIdeal.τ).loc Cert.KernelIdeal.main_arg6) (ix1 a)
  w2 a b := m ((c : Thread Cert.KernelIdeal.nD Cert.KernelIdeal.τ).loc Cert.KernelIdeal.main_arg7) (ix2 a b)
  b2 a := m ((c : Thread Cert.KernelIdeal.nD Cert.KernelIdeal.τ).loc Cert.KernelIdeal.main_arg8) (ix1 a)
  w4 a b := m ((c : Thread Cert.KernelIdeal.nD Cert.KernelIdeal.τ).loc Cert.KernelIdeal.main_arg9) (ix2 a b)
  b4 a := m ((c : Thread Cert.KernelIdeal.nD Cert.KernelIdeal.τ).loc Cert.KernelIdeal.main_arg10) (ix1 a)
  w5 a b := m ((c : Thread Cert.KernelIdeal.nD Cert.KernelIdeal.τ).loc Cert.KernelIdeal.main_arg11) (ix2 a b)
  b5 a := m ((c : Thread Cert.KernelIdeal.nD Cert.KernelIdeal.τ).loc Cert.KernelIdeal.main_arg12) (ix1 a)
  wo a b := m ((c : Thread Cert.KernelIdeal.nD Cert.KernelIdeal.τ).loc Cert.KernelIdeal.main_arg13) (ix2 a b)
  bo a := m ((c : Thread Cert.KernelIdeal.nD Cert.KernelIdeal.τ).loc Cert.KernelIdeal.main_arg14) (ix1 a)
  C k := BitVec.toNat (m ((c : Thread Cert.KernelIdeal.nD Cert.KernelIdeal.τ).loc Cert.KernelIdeal.main_arg15) (ix1 k) : BitVec 32)
  Q s := FloatOps.sitofp (F := Ideal) FTy.f32 (IntOp.maxsi (IntOp.subi (m ((c : Thread Cert.KernelIdeal.nD Cert.KernelIdeal.τ).loc Cert.KernelIdeal.main_arg15) (ix1 s.succ))
    (m ((c : Thread Cert.KernelIdeal.nD Cert.KernelIdeal.τ).loc Cert.KernelIdeal.main_arg15) (ix1 s.castSucc))) 1#32)
  E s := IntOp.cmpi .sgt (IntOp.subi (m ((c : Thread Cert.KernelIdeal.nD Cert.KernelIdeal.τ).loc Cert.KernelIdeal.main_arg15) (ix1 s.succ))
    (m ((c : Thread Cert.KernelIdeal.nD Cert.KernelIdeal.τ).loc Cert.KernelIdeal.main_arg15) (ix1 s.castSucc))) 0#32

section
open Cert.KernelIdeal Cert.KernelIdeal.Gen Cert.KernelIdeal.Hand
variable (m : (ℓ : Loc nD τ sig) → Buf (Elt Ideal) ℓ) (c : Dev nD)

/-- What the precondition gives of a chip's arguments. -/
abbrev Fit : Prop := Usable (fun k => m ((c : Thread nD τ).loc main_arg2) (ix1 k)) (fun k => m ((c : Thread nD τ).loc main_arg15) (ix1 k))

theorem at_point : ∀ t : Fin cfg0.N, ((grid0.coords t) 1).val = t.val % 8 := by decide

/-- Every grid point reads the network. -/
theorem reads (U : Fit m c) (t : Fin cfg0.N) : Reads (net m c) (blkNo t) (grid0.coords t) (blkAt m c t) where
  at_ := at_point t
  le := (cuts_of U).2.1
  cu k := (cu_at m c t k).trans ((cuts_of U).2.2 k)
  sc s := (sc_at m c t s).trans ((cuts_of U).2.2 _)
  ec s := (ec_at m c t s).trans ((cuts_of U).2.2 _)
  Q s := by rw [er_at, sr_at]; rfl
  E s := by rw [er_at, sr_at]; rfl
  xa k j := by
    rw [xa_at, mean_at, inv_at]
    rfl
  xb k j := by
    rw [xb_at, mean_at, inv_at]
    rfl
  w0 a b := w0_at m c t a b
  b0 a := b0_at m c t a
  w1a a b := w1a_at m c t a b
  w1b a b := w1b_at m c t a b
  b1 a := b1_at m c t a
  w2 a b := w2_at m c t a b
  b2 a := b2_at m c t a
  w4 a b := w4_at m c t a b
  b4 a := b4_at m c t a
  w5 a b := w5_at m c t a b
  b5 a := b5_at m c t a
  wo a b := wo_at m c t a b
  bo a := bo_at m c t a

/-- The last grid point. -/
def tLast : Fin cfg0.N := ⟨15, by decide⟩

/-- The array the kernel ends with: the network's outputs. -/
def res : Buf (Elt Ideal) ((c.tc : Thread nD τ).loc main_v18) := fun y => (net m c).out (y 0) (y 1)

theorem kernel_out (U : Fit m c) : (dats m 0 c).arrAt 20 cfg0.N = res m c := by
  refine (dats m 0 c).arrAt_eq_of_after_last 20 tLast (by decide +kernel) _ fun j => ?_
  blk_simp
  obtain ⟨s, k, rfl⟩ : ∃ (s : Fin 16) (k : Fin 5), j = ix2 s k := ⟨j 0, j 1, eq_ix2 j⟩
  exact outSt_at m c (reads m c U) tLast rfl s k
end

section
open Cert.ReferenceIdeal Cert.ReferenceIdeal.Gen Cert.ReferenceIdeal.Hand Cert.ReferenceIdeal.Value
variable (m : (ℓ : Loc Cert.KernelIdeal.nD Cert.KernelIdeal.τ Cert.KernelIdeal.sig) → Buf (Elt Ideal) ℓ) (m' : (ℓ : Loc nD τ sig) → Buf (Elt Ideal) ℓ) (c : Dev nD)

/-- The reference begins with the kernel's arguments. -/
structure Same : Prop where
  a0 : m' ((c.tc : Thread nD τ).loc main_arg0) = m ((c.tc : Thread Cert.KernelIdeal.nD Cert.KernelIdeal.τ).loc Cert.KernelIdeal.main_arg0)
  a1 : m' ((c.tc : Thread nD τ).loc main_arg1) = m ((c.tc : Thread Cert.KernelIdeal.nD Cert.KernelIdeal.τ).loc Cert.KernelIdeal.main_arg1)
  a2 : m' ((c.tc : Thread nD τ).loc main_arg2) = m ((c.tc : Thread Cert.KernelIdeal.nD Cert.KernelIdeal.τ).loc Cert.KernelIdeal.main_arg2)
  a3 : m' ((c.tc : Thread nD τ).loc main_arg3) = m ((c.tc : Thread Cert.KernelIdeal.nD Cert.KernelIdeal.τ).loc Cert.KernelIdeal.main_arg3)
  a4 : m' ((c.tc : Thread nD τ).loc main_arg4) = m ((c.tc : Thread Cert.KernelIdeal.nD Cert.KernelIdeal.τ).loc Cert.KernelIdeal.main_arg4)
  a5 : m' ((c.tc : Thread nD τ).loc main_arg5) = m ((c.tc : Thread Cert.KernelIdeal.nD Cert.KernelIdeal.τ).loc Cert.KernelIdeal.main_arg5)
  a6 : m' ((c.tc : Thread nD τ).loc main_arg6) = m ((c.tc : Thread Cert.KernelIdeal.nD Cert.KernelIdeal.τ).loc Cert.KernelIdeal.main_arg6)
  a7 : m' ((c.tc : Thread nD τ).loc main_arg7) = m ((c.tc : Thread Cert.KernelIdeal.nD Cert.KernelIdeal.τ).loc Cert.KernelIdeal.main_arg7)
  a8 : m' ((c.tc : Thread nD τ).loc main_arg8) = m ((c.tc : Thread Cert.KernelIdeal.nD Cert.KernelIdeal.τ).loc Cert.KernelIdeal.main_arg8)
  a9 : m' ((c.tc : Thread nD τ).loc main_arg9) = m ((c.tc : Thread Cert.KernelIdeal.nD Cert.KernelIdeal.τ).loc Cert.KernelIdeal.main_arg9)
  a10 : m' ((c.tc : Thread nD τ).loc main_arg10) = m ((c.tc : Thread Cert.KernelIdeal.nD Cert.KernelIdeal.τ).loc Cert.KernelIdeal.main_arg10)
  a11 : m' ((c.tc : Thread nD τ).loc main_arg11) = m ((c.tc : Thread Cert.KernelIdeal.nD Cert.KernelIdeal.τ).loc Cert.KernelIdeal.main_arg11)
  a12 : m' ((c.tc : Thread nD τ).loc main_arg12) = m ((c.tc : Thread Cert.KernelIdeal.nD Cert.KernelIdeal.τ).loc Cert.KernelIdeal.main_arg12)
  a13 : m' ((c.tc : Thread nD τ).loc main_arg13) = m ((c.tc : Thread Cert.KernelIdeal.nD Cert.KernelIdeal.τ).loc Cert.KernelIdeal.main_arg13)
  a14 : m' ((c.tc : Thread nD τ).loc main_arg14) = m ((c.tc : Thread Cert.KernelIdeal.nD Cert.KernelIdeal.τ).loc Cert.KernelIdeal.main_arg14)
  a15 : m' ((c.tc : Thread nD τ).loc main_arg15) = m ((c.tc : Thread Cert.KernelIdeal.nD Cert.KernelIdeal.τ).loc Cert.KernelIdeal.main_arg15)

/-- The size of a segment in the reference. -/
theorem size_at (V0 : Valuation τ sig (Elt Ideal)) (s : Fin 16) : res_main_v2 V0 (ix1 s) = IntOp.subi (V0 (Proc.devRef .tc main_arg15) (ix1 s.succ)) (V0 (Proc.devRef .tc main_arg15) (ix1 s.castSucc)) := by
  unfold res_main_v2
  clean_types
  pointwise []
  rw [show (⟨1 + s.val, by omega⟩ : Fin 17) = s.succ from Fin.ext (Nat.add_comm _ _)]
  rfl

/-- The reference reads the network. -/
theorem refs (U : Fit m c) (H : Same m m' c) : Refs (net m c) (StableHlo.launchContents m' c) where
  cuts := {
    word := fun k => (congrFun H.a15 (ix1 k)).trans ((cuts_of U).2.2 k)
    mono := (cuts_of U).1
    first := congrArg BitVec.toNat U.first
    last := congrArg BitVec.toNat U.last }
  Q s := by
    rw [size_at]
    exact congrArg (fun w => FloatOps.sitofp (F := Ideal) FTy.f32 (IntOp.maxsi w 1#32)) (congrArg₂ IntOp.subi (congrFun H.a15 _) (congrFun H.a15 _))
  E s := by
    rw [size_at]
    exact congrArg (fun w => IntOp.cmpi .sgt w 0#32) (congrArg₂ IntOp.subi (congrFun H.a15 _) (congrFun H.a15 _))
  x n k := by
    have e2 := congrFun H.a2 (ix1 k)
    refine (congrArg₂ Ideal.div (congrArg₂ (HSub.hSub (α := EReal) (β := EReal) (γ := EReal)) (congrFun H.a0 (ix2 n k)) (congrFun H.a1 (ix1 k))) (congrArg Ideal.sqrt e2)).trans ?_
    exact div_root _ _ (U.nz k)
  w0 a b := congrFun H.a3 _
  b0 a := congrFun H.a4 _
  w1a a b := congrFun H.a5 _
  w1b a b := congrFun H.a5 _
  b1 a := congrFun H.a6 _
  w2 a b := congrFun H.a7 _
  b2 a := congrFun H.a8 _
  w4 a b := congrFun H.a9 _
  b4 a := congrFun H.a10 _
  w5 a b := congrFun H.a11 _
  b5 a := congrFun H.a12 _
  wo a b := congrFun H.a13 _
  bo a := congrFun H.a14 _
end

/-- From arguments the precondition admits, the kernel and the reference end with the same array. -/
theorem equal : Cert.algebraic_KernelIdeal_ReferenceIdeal_pre_usable (hKernelIdeal := Cert.KernelIdeal.Gen.facts) (hReferenceIdeal := Cert.ReferenceIdeal.Gen.facts) (hPre_usable := usableFacts) := by
  intro m g m' g' hp hs
  have U : ∀ c, Fit m c := fun c => usable_of _ _ _ _ _ _ _ _ _ _ _ _ _ _ _ _ (hp c)
  have H : ∀ c, Same m m' c := fun c => by
    obtain ⟨h0, h1, h2, h3, h4, h5, h6, h7, h8, h9, h10, h11, h12, h13, h14, h15⟩ := hs c
    exact ⟨h0, h1, h2, h3, h4, h5, h6, h7, h8, h9, h10, h11, h12, h13, h14, h15⟩
  refine ⟨fun c => res m c, ?_, ?_⟩
  · exact (θ_run (Cert.KernelIdeal.defs (F := Ideal)) _ _).mono
      (fun r h c => ⟨((h.1 c).1 20).trans (kernel_out m c (U c)), Cert.KernelIdeal.Hand.kept m r h.1 c⟩) (Cert.KernelIdeal.Hand.run_main m g)
  · refine (θ_run (Cert.ReferenceIdeal.defs (F := Ideal)) _ _).mono (fun r h c => ⟨?_, (h c).2⟩) (Cert.ReferenceIdeal.Value.run (F := Ideal) m' g')
    refine (h c).1.trans ((Cert.ReferenceIdeal.Value.val2_main_v98 (StableHlo.launchContents m' c)).symm.trans (funext fun y => ?_))
    obtain ⟨s, k, rfl⟩ : ∃ (s : Fin 16) (k : Fin 5), y = ix2 s k := ⟨y 0, y 1, eq_ix2 y⟩
    exact Cert.ReferenceIdeal.Hand.out_at (refs m m' c (U c) (H c)) s k

end Cert.Value
-- ==== Proof.lean ====
/- The proof of the claims: that each of the three programs ends with its arguments unchanged and its counters at zero,
   and that the kernel and the reference end with the same result. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Words.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The reference declares no semaphore, and its run leaves the arguments. -/
theorem frame_ref : Cert.quiescent_ReferenceIdeal (hReferenceIdeal := Cert.ReferenceIdeal.Gen.facts) := fun m ρ _ =>
  (θ_run (Cert.ReferenceIdeal.defs (F := Ideal)) _ _).mono (fun r h => ⟨fun c => (h c).2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts, Cert.Value.usableFacts,
  fun m ρ _ => Cert.Kernel.Hand.frame m ρ, fun m ρ _ => Cert.KernelIdeal.Hand.frame m ρ, fun m ρ _ => Cert.KernelIdeal.Hand.frame m ρ,
  frame_ref, fun m ρ _ => frame_ref m ρ trivial, trivial, Cert.Value.equal⟩

end Cert.Proof

end
